-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![16384, 512]⟩ (Layout.meshBlock [2, 4, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S4096x512 .f32) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 16384#32
  let main_v2 : IVec S512 32 := broadcastInDim S512 ![] bcast_S_S512 main_c_0
  let main_v3 : IVec S512 1 := cmpi .slt main_arg0 main_v2
  let main_v4 : IVec S512 1 := andi main_v1 main_v3
  main_v4
-- ==== Pre_ids_in_range_ReferenceIdeal.lean ====
abbrev S512 : Shape := ⟨1, ![512]⟩
abbrev S16384x512 : Shape := ⟨2, ![16384, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S16384x512 .f32) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 16384#32
  let main_v2 : IVec S512 32 := broadcastInDim S512 ![] bcast_S_S512 main_c_0
  let main_v3 : IVec S512 1 := cmpi .slt main_arg0 main_v2
  let main_v4 : IVec S512 1 := andi main_v1 main_v3
  main_v4
-- ==== Kernel.lean ====
abbrev S512 : Shape := ⟨1, ![512]⟩
abbrev S4096x512 : Shape := ⟨2, ![4096, 512]⟩
abbrev S_ : Shape := ⟨0, ![]⟩
abbrev S256 : Shape := ⟨1, ![256]⟩
abbrev S256x1 : Shape := ⟨2, ![256, 1]⟩
abbrev S1 : Shape := ⟨1, ![1]⟩
abbrev S1x1 : Shape := ⟨2, ![1, 1]⟩
abbrev S256x512 : Shape := ⟨2, ![256, 512]⟩
abbrev S4x64x512 : Shape := ⟨3, ![4, 64, 512]⟩
abbrev S512x512 : Shape := ⟨2, ![512, 512]⟩
abbrev S4 : Shape := ⟨1, ![4]⟩
abbrev S1x64x512 : Shape := ⟨3, ![1, 64, 512]⟩
abbrev S64x512 : Shape := ⟨2, ![64, 512]⟩

abbrev nBuf : Space → Nat
  | .hbm => 58
  | .vmem => 7
  | .smem => 0
  | _ => 0

abbrev bufTy : (tb : Table) → Fin (tcTables nBuf tb) → BufTy
  | .hbm, ⟨0, _⟩ => ⟨S512, .i32⟩
  | .hbm, ⟨1, _⟩ => ⟨S4096x512, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S256, .i32⟩
  | .hbm, ⟨22, _⟩ => ⟨S_, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S256x1, .i32⟩
  | .hbm, ⟨41, _⟩ => ⟨S1, .i32⟩
  | .hbm, ⟨42, _⟩ => ⟨S_, .i32⟩
  | .hbm, ⟨43, _⟩ => ⟨S256x1, .i32⟩
  | .hbm, ⟨44, _⟩ => ⟨S256x1, .i1⟩
  | .hbm, ⟨45, _⟩ => ⟨S1x1, .i32⟩
  | .hbm, ⟨46, _⟩ => ⟨S256x1, .i32⟩
  | .hbm, ⟨47, _⟩ => ⟨S256x1, .i1⟩
  | .hbm, ⟨48, _⟩ => ⟨S256x1, .i1⟩
  | .hbm, ⟨49, _⟩ => ⟨S_, .i1⟩
  | .hbm, ⟨50, _⟩ => ⟨S256, .i1⟩
  | .hbm, ⟨51, _⟩ => ⟨S256x512, .f32⟩
  | .hbm, ⟨52, _⟩ => ⟨S256x512, .i1⟩
  | .hbm, ⟨53, _⟩ => ⟨S_, .f32⟩
  | .hbm, ⟨54, _⟩ => ⟨S256x512, .f32⟩
  | .hbm, ⟨55, _⟩ => ⟨S256x512, .f32⟩
  | .hbm, ⟨56, _⟩ => ⟨S4x64x512, .f32⟩
  | .hbm, ⟨57, _⟩ => ⟨S512x512, .f32⟩
  | .local _ .vmem, ⟨0, _⟩ => ⟨S4x64x512, .f32⟩
  | .local _ .vmem, ⟨1, _⟩ => ⟨S512x512, .f32⟩
  | .local _ .vmem, ⟨2, _⟩ => ⟨S4x64x512, .f32⟩
  | .local _ .vmem, ⟨3, _⟩ => ⟨S4x64x512, .f32⟩
  | .local _ .vmem, ⟨4, _⟩ => ⟨S4x64x512, .f32⟩
  | .local _ .vmem, ⟨5, _⟩ => ⟨S4x64x512, .f32⟩
  | .local _ .vmem, ⟨6, _⟩ => ⟨S4x64x512, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_7 : Ref sig .tc := ⟨.hbm, 26, rfl⟩
abbrev main_v17 : Ref sig .tc := ⟨.hbm, 27, rfl⟩
abbrev main_v18 : Ref sig .tc := ⟨.hbm, 28, rfl⟩
abbrev main_c_8 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v12 : BitVec 32 := Scalar.muli v9 c16_i32_4
  let v13 : BitVec 32 := Scalar.addi c0_i32 v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v14 : BitVec 32 := Scalar.muli v5 c4_i32_5
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.muli v8 c1_i32_6
  let v17 : BitVec 32 := Scalar.addi v15 v16
  v17.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v18 : BitVec 1 := Scalar.cmpi .slt v5 c3_i32
  let v19 : BitVec 32 := Scalar.extui v18
  let c0_i32_7 : BitVec 32 := 0#32
  let v20 : BitVec 1 := Scalar.cmpi .ne v19 c0_i32_7
  v20

def k0_dev2 (d0 : Dev nD) : Nat :=
  let c0_i32_29 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_28 : BitVec 32 := 16#32
  let v45 : BitVec 32 := Scalar.muli v2 c16_i32_28
  let v46 : BitVec 32 := Scalar.addi c0_i32_29 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_26 : BitVec 32 := 1#32
  let v44 : BitVec 32 := Scalar.addi v5 c1_i32_26
  let c4_i32_30 : BitVec 32 := 4#32
  let v47 : BitVec 32 := Scalar.muli v44 c4_i32_30
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.muli v8 c1_i32_31
  let v50 : BitVec 32 := Scalar.addi v48 v49
  v50.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_8 : BitVec 32 := 0#32
  let v21 : BitVec 1 := Scalar.cmpi .sgt v5 c0_i32_8
  let v22 : BitVec 32 := Scalar.extui v21
  let c0_i32_9 : BitVec 32 := 0#32
  let v23 : BitVec 1 := Scalar.cmpi .ne v22 c0_i32_9
  v23

def k0_dev3 (d0 : Dev nD) : Nat :=
  let c0_i32_29 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_28 : BitVec 32 := 16#32
  let v45 : BitVec 32 := Scalar.muli v2 c16_i32_28
  let v46 : BitVec 32 := Scalar.addi c0_i32_29 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_26 : BitVec 32 := 1#32
  let v44 : BitVec 32 := Scalar.subi v5 c1_i32_26
  let c4_i32_30 : BitVec 32 := 4#32
  let v47 : BitVec 32 := Scalar.muli v44 c4_i32_30
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.muli v8 c1_i32_31
  let v50 : BitVec 32 := Scalar.addi v48 v49
  v50.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_10 : BitVec 32 := 0#32
  let v24 : BitVec 1 := Scalar.cmpi .sgt v5 c0_i32_10
  let c3_i32_11 : BitVec 32 := 3#32
  let v25 : BitVec 1 := Scalar.cmpi .slt v5 c3_i32_11
  let v26 : BitVec 1 := Scalar.andi v24 v25
  let v_true : BitVec 1 := 1#1
  let v27 : BitVec 1 := Scalar.xori v26 v_true
  let v38 : BitVec 32 := Scalar.extui v27
  let c0_i32_23 : BitVec 32 := 0#32
  let v39 : BitVec 1 := Scalar.cmpi .ne v38 c0_i32_23
  v39

def k0_dev4 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v44 : BitVec 32 := Scalar.muli v2 c16_i32_30
  let v45 : BitVec 32 := Scalar.addi c0_i32_31 v44
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_14 : BitVec 32 := 0#32
  let v32 : BitVec 1 := Scalar.cmpi .eq v5 c0_i32_14
  let c1_i32_15 : BitVec 32 := 1#32
  let c2_i32_16 : BitVec 32 := 2#32
  let v33 : BitVec 32 := Scalar.select v32 c1_i32_15 c2_i32_16
  let c4_i32_32 : BitVec 32 := 4#32
  let v46 : BitVec 32 := Scalar.muli v33 c4_i32_32
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v48 : BitVec 32 := Scalar.muli v8 c1_i32_33
  let v49 : BitVec 32 := Scalar.addi v47 v48
  v49.toNat
def k0_dev5 (d0 : Dev nD) : Nat :=
  let c0_i32_43 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_42 : BitVec 32 := 16#32
  let v58 : BitVec 32 := Scalar.muli v2 c16_i32_42
  let v59 : BitVec 32 := Scalar.addi c0_i32_43 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_14 : BitVec 32 := 0#32
  let v32 : BitVec 1 := Scalar.cmpi .eq v5 c0_i32_14
  let c1_i32_15 : BitVec 32 := 1#32
  let c2_i32_16 : BitVec 32 := 2#32
  let v33 : BitVec 32 := Scalar.select v32 c1_i32_15 c2_i32_16
  let c4_i32_44 : BitVec 32 := 4#32
  let v60 : BitVec 32 := Scalar.muli v33 c4_i32_44
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v62 : BitVec 32 := Scalar.muli v8 c1_i32_45
  let v63 : BitVec 32 := Scalar.addi v61 v62
  v63.toNat
def k0_dev6 (d0 : Dev nD) : Nat :=
  let c0_i32_55 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_54 : BitVec 32 := 16#32
  let v72 : BitVec 32 := Scalar.muli v2 c16_i32_54
  let v73 : BitVec 32 := Scalar.addi c0_i32_55 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_14 : BitVec 32 := 0#32
  let v32 : BitVec 1 := Scalar.cmpi .eq v5 c0_i32_14
  let c1_i32_15 : BitVec 32 := 1#32
  let c2_i32_16 : BitVec 32 := 2#32
  let v33 : BitVec 32 := Scalar.select v32 c1_i32_15 c2_i32_16
  let c4_i32_56 : BitVec 32 := 4#32
  let v74 : BitVec 32 := Scalar.muli v33 c4_i32_56
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v76 : BitVec 32 := Scalar.muli v8 c1_i32_57
  let v77 : BitVec 32 := Scalar.addi v75 v76
  v77.toNat
def k0_dev7 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_66 : BitVec 32 := 16#32
  let v86 : BitVec 32 := Scalar.muli v2 c16_i32_66
  let v87 : BitVec 32 := Scalar.addi c0_i32_67 v86
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_14 : BitVec 32 := 0#32
  let v32 : BitVec 1 := Scalar.cmpi .eq v5 c0_i32_14
  let c1_i32_15 : BitVec 32 := 1#32
  let c2_i32_16 : BitVec 32 := 2#32
  let v33 : BitVec 32 := Scalar.select v32 c1_i32_15 c2_i32_16
  let c4_i32_68 : BitVec 32 := 4#32
  let v88 : BitVec 32 := Scalar.muli v33 c4_i32_68
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v90 : BitVec 32 := Scalar.muli v8 c1_i32_69
  let v91 : BitVec 32 := Scalar.addi v89 v90
  v91.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_10 : BitVec 32 := 0#32
  let v24 : BitVec 1 := Scalar.cmpi .sgt v5 c0_i32_10
  let c3_i32_11 : BitVec 32 := 3#32
  let v25 : BitVec 1 := Scalar.cmpi .slt v5 c3_i32_11
  let v26 : BitVec 1 := Scalar.andi v24 v25
  let v40 : BitVec 32 := Scalar.extui v26
  let c0_i32_24 : BitVec 32 := 0#32
  let v41 : BitVec 1 := Scalar.cmpi .ne v40 c0_i32_24
  v41

def k0_dev8 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v64 : BitVec 32 := Scalar.muli v2 c16_i32_50
  let v65 : BitVec 32 := Scalar.addi c0_i32_51 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 1 := Scalar.cmpi .eq v5 c1_i32_17
  let c2_i32_18 : BitVec 32 := 2#32
  let c1_i32_19 : BitVec 32 := 1#32
  let v35 : BitVec 32 := Scalar.select v34 c2_i32_18 c1_i32_19
  let c4_i32_52 : BitVec 32 := 4#32
  let v66 : BitVec 32 := Scalar.muli v35 c4_i32_52
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v68 : BitVec 32 := Scalar.muli v8 c1_i32_53
  let v69 : BitVec 32 := Scalar.addi v67 v68
  v69.toNat
def k0_dev9 (d0 : Dev nD) : Nat :=
  let c0_i32_83 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_82 : BitVec 32 := 16#32
  let v98 : BitVec 32 := Scalar.muli v2 c16_i32_82
  let v99 : BitVec 32 := Scalar.addi c0_i32_83 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 1 := Scalar.cmpi .eq v5 c1_i32_17
  let c2_i32_18 : BitVec 32 := 2#32
  let c1_i32_19 : BitVec 32 := 1#32
  let v35 : BitVec 32 := Scalar.select v34 c2_i32_18 c1_i32_19
  let c4_i32_84 : BitVec 32 := 4#32
  let v100 : BitVec 32 := Scalar.muli v35 c4_i32_84
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v102 : BitVec 32 := Scalar.muli v8 c1_i32_85
  let v103 : BitVec 32 := Scalar.addi v101 v102
  v103.toNat
def k0_dev10 (d0 : Dev nD) : Nat :=
  let c0_i32_115 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_114 : BitVec 32 := 16#32
  let v132 : BitVec 32 := Scalar.muli v2 c16_i32_114
  let v133 : BitVec 32 := Scalar.addi c0_i32_115 v132
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 1 := Scalar.cmpi .eq v5 c1_i32_17
  let c2_i32_18 : BitVec 32 := 2#32
  let c1_i32_19 : BitVec 32 := 1#32
  let v35 : BitVec 32 := Scalar.select v34 c2_i32_18 c1_i32_19
  let c4_i32_116 : BitVec 32 := 4#32
  let v134 : BitVec 32 := Scalar.muli v35 c4_i32_116
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v136 : BitVec 32 := Scalar.muli v8 c1_i32_117
  let v137 : BitVec 32 := Scalar.addi v135 v136
  v137.toNat
def k0_dev11 (d0 : Dev nD) : Nat :=
  let c0_i32_147 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_146 : BitVec 32 := 16#32
  let v166 : BitVec 32 := Scalar.muli v2 c16_i32_146
  let v167 : BitVec 32 := Scalar.addi c0_i32_147 v166
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 1 := Scalar.cmpi .eq v5 c1_i32_17
  let c2_i32_18 : BitVec 32 := 2#32
  let c1_i32_19 : BitVec 32 := 1#32
  let v35 : BitVec 32 := Scalar.select v34 c2_i32_18 c1_i32_19
  let c4_i32_148 : BitVec 32 := 4#32
  let v168 : BitVec 32 := Scalar.muli v35 c4_i32_148
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v170 : BitVec 32 := Scalar.muli v8 c1_i32_149
  let v171 : BitVec 32 := Scalar.addi v169 v170
  v171.toNat
def k0_dev12 (d0 : Dev nD) : Nat :=
  let c0_i32_189 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_188 : BitVec 32 := 16#32
  let v206 : BitVec 32 := Scalar.muli v2 c16_i32_188
  let v207 : BitVec 32 := Scalar.addi c0_i32_189 v206
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_20 : BitVec 32 := 1#32
  let v36 : BitVec 1 := Scalar.cmpi .eq v5 c1_i32_20
  let c0_i32_21 : BitVec 32 := 0#32
  let c3_i32_22 : BitVec 32 := 3#32
  let v37 : BitVec 32 := Scalar.select v36 c0_i32_21 c3_i32_22
  let c4_i32_190 : BitVec 32 := 4#32
  let v208 : BitVec 32 := Scalar.muli v37 c4_i32_190
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v210 : BitVec 32 := Scalar.muli v8 c1_i32_191
  let v211 : BitVec 32 := Scalar.addi v209 v210
  v211.toNat
def k0_dev13 (d0 : Dev nD) : Nat :=
  let c0_i32_201 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_200 : BitVec 32 := 16#32
  let v220 : BitVec 32 := Scalar.muli v9 c16_i32_200
  let v221 : BitVec 32 := Scalar.addi c0_i32_201 v220
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_202 : BitVec 32 := 4#32
  let v222 : BitVec 32 := Scalar.muli v5 c4_i32_202
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v224 : BitVec 32 := Scalar.muli v8 c1_i32_203
  let v225 : BitVec 32 := Scalar.addi v223 v224
  v225.toNat
def k0_dev14 (d0 : Dev nD) : Nat :=
  let c0_i32_243 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_242 : BitVec 32 := 16#32
  let v260 : BitVec 32 := Scalar.muli v2 c16_i32_242
  let v261 : BitVec 32 := Scalar.addi c0_i32_243 v260
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_20 : BitVec 32 := 1#32
  let v36 : BitVec 1 := Scalar.cmpi .eq v5 c1_i32_20
  let c0_i32_21 : BitVec 32 := 0#32
  let c3_i32_22 : BitVec 32 := 3#32
  let v37 : BitVec 32 := Scalar.select v36 c0_i32_21 c3_i32_22
  let c4_i32_244 : BitVec 32 := 4#32
  let v262 : BitVec 32 := Scalar.muli v37 c4_i32_244
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v264 : BitVec 32 := Scalar.muli v8 c1_i32_245
  let v265 : BitVec 32 := Scalar.addi v263 v264
  v265.toNat
def k0_dev15 (d0 : Dev nD) : Nat :=
  let c0_i32_255 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_254 : BitVec 32 := 16#32
  let v274 : BitVec 32 := Scalar.muli v9 c16_i32_254
  let v275 : BitVec 32 := Scalar.addi c0_i32_255 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_256 : BitVec 32 := 4#32
  let v276 : BitVec 32 := Scalar.muli v5 c4_i32_256
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v278 : BitVec 32 := Scalar.muli v8 c1_i32_257
  let v279 : BitVec 32 := Scalar.addi v277 v278
  v279.toNat
def k0_dev16 (d0 : Dev nD) : Nat :=
  let c0_i32_297 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_296 : BitVec 32 := 16#32
  let v314 : BitVec 32 := Scalar.muli v2 c16_i32_296
  let v315 : BitVec 32 := Scalar.addi c0_i32_297 v314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_20 : BitVec 32 := 1#32
  let v36 : BitVec 1 := Scalar.cmpi .eq v5 c1_i32_20
  let c0_i32_21 : BitVec 32 := 0#32
  let c3_i32_22 : BitVec 32 := 3#32
  let v37 : BitVec 32 := Scalar.select v36 c0_i32_21 c3_i32_22
  let c4_i32_298 : BitVec 32 := 4#32
  let v316 : BitVec 32 := Scalar.muli v37 c4_i32_298
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v318 : BitVec 32 := Scalar.muli v8 c1_i32_299
  let v319 : BitVec 32 := Scalar.addi v317 v318
  v319.toNat
def k0_dev17 (d0 : Dev nD) : Nat :=
  let c0_i32_309 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_308 : BitVec 32 := 16#32
  let v328 : BitVec 32 := Scalar.muli v9 c16_i32_308
  let v329 : BitVec 32 := Scalar.addi c0_i32_309 v328
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_310 : BitVec 32 := 4#32
  let v330 : BitVec 32 := Scalar.muli v5 c4_i32_310
  let v331 : BitVec 32 := Scalar.addi v329 v330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v332 : BitVec 32 := Scalar.muli v8 c1_i32_311
  let v333 : BitVec 32 := Scalar.addi v331 v332
  v333.toNat
def k0_dev18 (d0 : Dev nD) : Nat :=
  let c0_i32_351 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_350 : BitVec 32 := 16#32
  let v368 : BitVec 32 := Scalar.muli v2 c16_i32_350
  let v369 : BitVec 32 := Scalar.addi c0_i32_351 v368
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_20 : BitVec 32 := 1#32
  let v36 : BitVec 1 := Scalar.cmpi .eq v5 c1_i32_20
  let c0_i32_21 : BitVec 32 := 0#32
  let c3_i32_22 : BitVec 32 := 3#32
  let v37 : BitVec 32 := Scalar.select v36 c0_i32_21 c3_i32_22
  let c4_i32_352 : BitVec 32 := 4#32
  let v370 : BitVec 32 := Scalar.muli v37 c4_i32_352
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_353 : BitVec 32 := 1#32
  let v372 : BitVec 32 := Scalar.muli v8 c1_i32_353
  let v373 : BitVec 32 := Scalar.addi v371 v372
  v373.toNat
def k0_dev19 (d0 : Dev nD) : Nat :=
  let c0_i32_363 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_362 : BitVec 32 := 16#32
  let v382 : BitVec 32 := Scalar.muli v9 c16_i32_362
  let v383 : BitVec 32 := Scalar.addi c0_i32_363 v382
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_364 : BitVec 32 := 4#32
  let v384 : BitVec 32 := Scalar.muli v5 c4_i32_364
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_365 : BitVec 32 := 1#32
  let v386 : BitVec 32 := Scalar.muli v8 c1_i32_365
  let v387 : BitVec 32 := Scalar.addi v385 v386
  v387.toNat
def k0_off1 (d0 : Dev nD) (c0_i32_394 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v10 : BitVec 32 := Scalar.muli v2 c256_i32
  let v416 : BitVec 32 := Scalar.addi v10 c0_i32_394
  let v417 : Index := Scalar.indexCast v416
  let c0_395 : Index := 0#32
  ![v417.toNat, 0]
def k0_off2 (d0 : Dev nD) (c0_i32_400 : BitVec 32) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_399 : BitVec 32 := 256#32
  let v421 : BitVec 32 := Scalar.muli v9 c256_i32_399
  let v422 : BitVec 32 := Scalar.addi v421 c0_i32_400
  let v423 : Index := Scalar.indexCast v422
  let c0_401 : Index := 0#32
  ![v423.toNat, 0]
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_10 : BitVec 32 := 0#32
  let v24 : BitVec 1 := Scalar.cmpi .sgt v5 c0_i32_10
  let c3_i32_11 : BitVec 32 := 3#32
  let v25 : BitVec 1 := Scalar.cmpi .slt v5 c3_i32_11
  let v26 : BitVec 1 := Scalar.andi v24 v25
  let v_true : BitVec 1 := 1#1
  let v27 : BitVec 1 := Scalar.xori v26 v_true
  let v42 : BitVec 32 := Scalar.extui v27
  let c0_i32_25 : BitVec 32 := 0#32
  let v43 : BitVec 1 := Scalar.cmpi .ne v42 c0_i32_25
  v43

def k0_dev20 (d0 : Dev nD) : Nat :=
  let c0_i32_43 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_42 : BitVec 32 := 16#32
  let v56 : BitVec 32 := Scalar.muli v9 c16_i32_42
  let v57 : BitVec 32 := Scalar.addi c0_i32_43 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_44 : BitVec 32 := 4#32
  let v58 : BitVec 32 := Scalar.muli v5 c4_i32_44
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v60 : BitVec 32 := Scalar.muli v8 c1_i32_45
  let v61 : BitVec 32 := Scalar.addi v59 v60
  v61.toNat
def k0_dev21 (d0 : Dev nD) : Nat :=
  let c0_i32_67 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_66 : BitVec 32 := 16#32
  let v82 : BitVec 32 := Scalar.muli v9 c16_i32_66
  let v83 : BitVec 32 := Scalar.addi c0_i32_67 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v84 : BitVec 32 := Scalar.muli v5 c4_i32_68
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v86 : BitVec 32 := Scalar.muli v8 c1_i32_69
  let v87 : BitVec 32 := Scalar.addi v85 v86
  v87.toNat
def k0_dev22 (d0 : Dev nD) : Nat :=
  let c0_i32_91 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_90 : BitVec 32 := 16#32
  let v108 : BitVec 32 := Scalar.muli v9 c16_i32_90
  let v109 : BitVec 32 := Scalar.addi c0_i32_91 v108
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_92 : BitVec 32 := 4#32
  let v110 : BitVec 32 := Scalar.muli v5 c4_i32_92
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v112 : BitVec 32 := Scalar.muli v8 c1_i32_93
  let v113 : BitVec 32 := Scalar.addi v111 v112
  v113.toNat
def k0_dev23 (d0 : Dev nD) : Nat :=
  let c0_i32_115 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_114 : BitVec 32 := 16#32
  let v134 : BitVec 32 := Scalar.muli v9 c16_i32_114
  let v135 : BitVec 32 := Scalar.addi c0_i32_115 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_116 : BitVec 32 := 4#32
  let v136 : BitVec 32 := Scalar.muli v5 c4_i32_116
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v138 : BitVec 32 := Scalar.muli v8 c1_i32_117
  let v139 : BitVec 32 := Scalar.addi v137 v138
  v139.toNat
def k0_off3 (d0 : Dev nD) (c0_i32_145 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v10 : BitVec 32 := Scalar.muli v2 c256_i32
  let v168 : BitVec 32 := Scalar.addi v10 c0_i32_145
  let v169 : Index := Scalar.indexCast v168
  let c0_146 : Index := 0#32
  ![v169.toNat, 0]
def k0_off4 (d0 : Dev nD) (c0_i32_151 : BitVec 32) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_150 : BitVec 32 := 256#32
  let v173 : BitVec 32 := Scalar.muli v9 c256_i32_150
  let v174 : BitVec 32 := Scalar.addi v173 c0_i32_151
  let v175 : Index := Scalar.indexCast v174
  let c0_152 : Index := 0#32
  ![v175.toNat, 0]
abbrev stage0_0 : Fin 1 → Memref sig .tc .vmem S4x64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512 : Shape := ⟨1, ![512]⟩
abbrev S16384x512 : Shape := ⟨2, ![16384, 512]⟩
abbrev S_ : Shape := ⟨0, ![]⟩
abbrev S512x1 : Shape := ⟨2, ![512, 1]⟩
abbrev S512x512 : Shape := ⟨2, ![512, 512]⟩

abbrev nBuf : Space → Nat
  | .hbm => 11
  | .vmem => 0
  | .smem => 0
  | _ => 0

abbrev bufTy : (tb : Table) → Fin (tcTables nBuf tb) → BufTy
  | .hbm, ⟨0, _⟩ => ⟨S512, .i32⟩
  | .hbm, ⟨1, _⟩ => ⟨S16384x512, .f32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Phases.lean ====
/-
The kernel body, read as phases over four independent chunks.

The body works on buffers of four chunks of 64 rows.  For every chunk it does the same three things (on a device
in the middle of a column) or the same two things (on a device at the end of one), and the chunk number occurs only
in a slice's offset and in a semaphore's index.  This module names those steps once, with the chunk a variable, and
proves that the printed body is their sequence.
-/
module

public import proofs.«01_k».proof.Proof.Gen.KernelIdeal.Skeleton

@[expose] public section

set_option synthInstance.maxSize 4096

noncomputable section

namespace Cert.Gather

open Idealize.ShloMosaic Idealize.ShloMosaic.TcCoe Idealize.SL.Sem
open Cert.KernelIdeal Cert.KernelIdeal.Gen

variable {F : FTy → Type} [FloatOps F]

/-- The programs the TensorCore runs here. -/
abbrev TcProg (F : FTy → Type) (α : Type) : Type 1 := Prog (TpuEff nD τ sig (Elt F) Λ₀ .tc) α

/-! ## One chunk of a buffer, one semaphore of a row of four -/

theorem inb_chunk : ∀ k : Fin 4, ∀ a, (![k.val, 0, 0] : Fin 3 → Nat) a + S1x64x512.size a ≤ S4x64x512.size a := by decide
theorem inb_sem : ∀ k : Fin 4, ∀ a, (![k.val] : Fin 1 → Nat) a + S1.size a ≤ S4.size a := by decide

/-- The rectangle of chunk `k`. -/
abbrev ckRect (k : Fin 4) : Rect S4x64x512 := Rect.unit (s := S4x64x512) ![k.val, 0, 0] S1x64x512.size (inb_chunk k)

/-- Chunk `k` of a buffer, as a copy names it. -/
abbrev ck (b : Memref sig .tc .vmem S4x64x512 .f32) (k : Fin 4) : Memref sig .tc .vmem S64x512 .f32 :=
  (b.slice (ckRect k) (fun _ => rfl)).squeeze S64x512 squeezes_S1x64x512_S64x512

/-- Semaphore `k` of a row of four. -/
abbrev sm (a : DmaSems sig S4) (k : Fin 4) : DmaSem sig :=
  ((a.slice (Rect.unit (s := S4) ![k.val] S1.size (inb_sem k))).squeeze S_ squeezes_S1_S_).sem

/-! ## The steps -/

/-- Start the copy of a chunk into a peer's buffer. -/
abbrev snd (src : Memref sig .tc .vmem S4x64x512 .f32) (n : Dev nD) (dst : Memref sig .tc .vmem S4x64x512 .f32)
    (ss rs : DmaSems sig S4) (k : Fin 4) : TcProg F PUnit :=
  Prog.lift (.enqueueDma (ck src k) (.remote (Dev.tc n) (ck dst k) (.dma (sm ss k))) (.dma (sm rs k))
    ((View.wordExact_bits rfl).reshape _ _) ((View.wordExact_bits rfl).reshape _ _) ⟨⟨rfl, Or.inl rfl⟩, trivial⟩)

/-- Wait for a copy of a chunk, at either end. -/
abbrev wt (a : DmaSems sig S4) (src dst : Memref sig .tc .vmem S4x64x512 .f32) (k : Fin 4) : TcProg F PUnit :=
  Prog.lift (.waitDma2 (sm a k) (ck src k) (ck dst k)
    ((View.wordExact_bits rfl).reshape _ _) ((View.wordExact_bits rfl).reshape _ _))

/-- Read chunk `k`. -/
abbrev ld (b : Memref sig .tc .vmem S4x64x512 .f32) (k : Fin 4) : TcProg F (Vec F S1x64x512 .f32) :=
  Prog.lift (.load b (ckRect k).toLoadRect (View.loadsAt_vmem h_S1x64x512))

/-- Overwrite chunk `k`. -/
abbrev sto (b : Memref sig .tc .vmem S4x64x512 .f32) (k : Fin 4) (w : FVec F S1x64x512 .f32) : TcProg F PUnit :=
  Prog.lift (.store b (ckRect k) w Finset.univ (View.stores_vmem_bits_univ h_S1x64x512 rfl) (.inl rfl))

/-- Overwrite 64 rows of the result, from `off` on (its old rows are read first and dropped). -/
abbrev outp (b : Memref sig .tc .vmem S512x512 .f32) (off : Fin 2 → Nat)
    (h : ∀ a, off a + S64x512.size a ≤ S512x512.size a) (w : FVec F S64x512 .f32) : TcProg F PUnit := do
  let _ ← Prog.lift (.load b (Rect.unit (s := S512x512) off S64x512.size h).toLoadRect (View.loadsAt_vmem h_S64x512))
  Prog.lift (.store b (Rect.unit (s := S512x512) off S64x512.size h) w Finset.univ
    (View.stores_vmem_bits_univ h_S64x512 rfl) (.inl rfl))

/-- Two chunks' sum. -/
abbrev addc (u v : Vec F S1x64x512 .f32) : FVec F S1x64x512 .f32 := k0_pay1 u v
/-- A chunk without its unit axis. -/
abbrev cut (u : Vec F S1x64x512 .f32) : FVec F S64x512 .f32 := k0_pay11 u

section

variable (arg0 : Memref sig .tc .vmem S4x64x512 .f32) (arg1 : Memref sig .tc .vmem S512x512 .f32)
  (arg2 arg3 arg4 arg5 arg6 : Memref sig .tc .vmem S4x64x512 .f32)
  (arg7 arg8 arg9 arg10 arg11 arg12 arg13 arg14 : DmaSems sig S4)

/-- `dst := a + b`, on chunk `k`. -/
abbrev acc (dst a b : Memref sig .tc .vmem S4x64x512 .f32) (k : Fin 4) : TcProg F PUnit := do
  let u ← ld a k
  let v ← ld b k
  let _ ← ld dst k
  sto dst k (addc u v)

/-- Middle device, first phase: the partner's rows arrive and are added; the sum goes to the other middle device. -/
abbrev inner1 (mid : Dev nD) (k : Fin 4) : TcProg F PUnit := do
  wt arg8 arg0 arg3 k
  acc arg2 arg0 arg3 k
  snd arg2 mid arg4 arg9 arg10 k

/-- Middle device, second phase: the other middle device's sum arrives and is added; the total goes to the partner
    and across to the other half of the result. -/
abbrev inner2 (pa px : Dev nD) (k : Fin 4) : TcProg F PUnit := do
  wt arg9 arg4 arg2 k
  wt arg10 arg2 arg4 k
  acc arg2 arg2 arg4 k
  snd arg2 pa arg5 arg11 arg12 k
  snd arg2 px arg6 arg13 arg14 k

/-- The last phase, of every device: the own half's rows (in `own`) and the other half's (in `arg6`) go to the
    result. -/
abbrev last (own : Memref sig .tc .vmem S4x64x512 .f32) (off₁ off₂ : Fin 2 → Nat)
    (h₁ : ∀ a, off₁ a + S64x512.size a ≤ S512x512.size a) (h₂ : ∀ a, off₂ a + S64x512.size a ≤ S512x512.size a)
    (k : Fin 4) : TcProg F PUnit := do
  wt arg13 arg6 own k
  wt arg14 own arg6 k
  let u ← ld own k
  outp arg1 off₁ h₁ (cut u)
  let v ← ld arg6 k
  outp arg1 off₂ h₂ (cut v)

/-- End device, first phase: its rows go to the partner. -/
abbrev edge1 (pa : Dev nD) (k : Fin 4) : TcProg F PUnit := snd arg0 pa arg3 arg7 arg8 k

/-- End device, second phase: the total arrives from the partner and goes across to the other half. -/
abbrev edge2 (px : Dev nD) (k : Fin 4) : TcProg F PUnit := do
  wt arg12 arg2 arg5 k
  snd arg5 px arg6 arg13 arg14 k

/-- The same step on the four chunks in turn. -/
abbrev four (p : Fin 4 → TcProg F PUnit) : TcProg F PUnit := do p 0; p 1; p 2; p 3

/-- Everything after the barrier on a middle device. -/
abbrev innerProg (mid pa px : Fin 4 → Dev nD) (off₁ off₂ : Fin 4 → Fin 2 → Nat)
    (h₁ : ∀ k a, off₁ k a + S64x512.size a ≤ S512x512.size a)
    (h₂ : ∀ k a, off₂ k a + S64x512.size a ≤ S512x512.size a) : TcProg F PUnit := do
  four fun k => inner1 arg0 arg2 arg3 arg4 arg8 arg9 arg10 (mid k) k
  four fun k => inner2 arg2 arg4 arg5 arg6 arg9 arg10 arg11 arg12 arg13 arg14 (pa k) (px k) k
  four fun k => last arg1 arg6 arg13 arg14 arg2 (off₁ k) (off₂ k) (h₁ k) (h₂ k) k
  four fun k => wt arg11 arg5 arg2 k

/-- Everything after the barrier on an end device. -/
abbrev edgeProg (pa px : Fin 4 → Dev nD) (off₁ off₂ : Fin 4 → Fin 2 → Nat)
    (h₁ : ∀ k a, off₁ k a + S64x512.size a ≤ S512x512.size a)
    (h₂ : ∀ k a, off₂ k a + S64x512.size a ≤ S512x512.size a) : TcProg F PUnit := do
  four fun k => edge1 arg0 arg3 arg7 arg8 (pa k) k
  four fun k => edge2 arg2 arg5 arg6 arg12 arg13 arg14 (px k) k
  four fun k => last arg1 arg6 arg13 arg14 arg5 (off₁ k) (off₂ k) (h₁ k) (h₂ k) k
  four fun k => wt arg7 arg3 arg0 k

/-- The peers the printed body computes on a middle device, per chunk. -/
abbrev midK (d0 : Dev nD) (h : k0_cond6 d0 = 1#1) : Fin 4 → Dev nD
  | 0 => ⟨k0_dev8 d0, k0_dev8_lt d0 h⟩ | 1 => ⟨k0_dev9 d0, k0_dev9_lt d0 h⟩
  | 2 => ⟨k0_dev10 d0, k0_dev10_lt d0 h⟩ | 3 => ⟨k0_dev11 d0, k0_dev11_lt d0 h⟩
abbrev paK (d0 : Dev nD) (h : k0_cond6 d0 = 1#1) : Fin 4 → Dev nD
  | 0 => ⟨k0_dev12 d0, k0_dev12_lt d0 h⟩ | 1 => ⟨k0_dev14 d0, k0_dev14_lt d0 h⟩
  | 2 => ⟨k0_dev16 d0, k0_dev16_lt d0 h⟩ | 3 => ⟨k0_dev18 d0, k0_dev18_lt d0 h⟩
abbrev pxK (d0 : Dev nD) (h : k0_cond6 d0 = 1#1) : Fin 4 → Dev nD
  | 0 => ⟨k0_dev13 d0, k0_dev13_lt d0 h⟩ | 1 => ⟨k0_dev15 d0, k0_dev15_lt d0 h⟩
  | 2 => ⟨k0_dev17 d0, k0_dev17_lt d0 h⟩ | 3 => ⟨k0_dev19 d0, k0_dev19_lt d0 h⟩
/-- The peers the printed body computes on an end device, per chunk. -/
abbrev paE (d0 : Dev nD) (h : k0_cond5 d0 = 1#1) : Fin 4 → Dev nD
  | 0 => ⟨k0_dev4 d0, k0_dev4_lt d0 h⟩ | 1 => ⟨k0_dev5 d0, k0_dev5_lt d0 h⟩
  | 2 => ⟨k0_dev6 d0, k0_dev6_lt d0 h⟩ | 3 => ⟨k0_dev7 d0, k0_dev7_lt d0 h⟩
abbrev pxE (d0 : Dev nD) (h : k0_cond7 d0 = 1#1) : Fin 4 → Dev nD
  | 0 => ⟨k0_dev20 d0, k0_dev20_lt d0 h⟩ | 1 => ⟨k0_dev21 d0, k0_dev21_lt d0 h⟩
  | 2 => ⟨k0_dev22 d0, k0_dev22_lt d0 h⟩ | 3 => ⟨k0_dev23 d0, k0_dev23_lt d0 h⟩

variable (harg0 : arg0.IsWhole) (harg1 : arg1.IsWhole) (harg2 : arg2.IsWhole) (harg3 : arg3.IsWhole)
  (harg4 : arg4.IsWhole) (harg5 : arg5.IsWhole) (harg6 : arg6.IsWhole)

/-- The body: the barrier, then one of the two sequences. -/
def bodyP : TcProg F PUnit := do
  let r ← k0_part28 (F := F) arg0 harg0 arg1 harg1 arg2 harg2 arg3 harg3 arg4 harg4 arg5 harg5 arg6 harg6 arg7 arg8 arg9 arg10 arg11 arg12 arg13 arg14
  if h5 : k0_cond5 r.1 = 1#1 then
    four fun k => edge1 arg0 arg3 arg7 arg8 (paE r.1 h5 k) k
  else pure ⟨⟩
  if h6 : k0_cond6 r.1 = 1#1 then
    innerProg arg0 arg1 arg2 arg3 arg4 arg5 arg6 arg8 arg9 arg10 arg11 arg12 arg13 arg14 (midK r.1 h6) (paK r.1 h6) (pxK r.1 h6)
      (fun k => k0_off1 r.1 (BitVec.ofNat 32 (64 * k.val))) (fun k => k0_off2 r.1 (BitVec.ofNat 32 (64 * k.val)))
      (k0_off1_inb r.1 h6) (k0_off2_inb r.1 h6)
  else pure ⟨⟩
  if h7 : k0_cond7 r.1 = 1#1 then do
    four fun k => edge2 arg2 arg5 arg6 arg12 arg13 arg14 (pxE r.1 h7 k) k
    four fun k => last arg1 arg6 arg13 arg14 arg5 (k0_off3 r.1 (BitVec.ofNat 32 (64 * k.val))) (k0_off4 r.1 (BitVec.ofNat 32 (64 * k.val))) (k0_off3_inb r.1 h7 k) (k0_off4_inb r.1 h7 k) k
    four fun k => wt arg7 arg3 arg0 k
  else pure ⟨⟩
  pure ⟨⟩

set_option maxRecDepth 65536 in
theorem body_eq : cc0_body (F := F) arg0 harg0 arg1 harg1 arg2 harg2 arg3 harg3 arg4 harg4 arg5 harg5 arg6 harg6 arg7 arg8 arg9 arg10 arg11 arg12 arg13 arg14
    = bodyP arg0 arg1 arg2 arg3 arg4 arg5 arg6 arg7 arg8 arg9 arg10 arg11 arg12 arg13 arg14 harg0 harg1 harg2 harg3 harg4 harg5 harg6 := by
  rfl

end

end Cert.Gather

end
-- ==== Proof.Peers.lean ====
/-
The mesh, as the kernel uses it.

Device `c` stands at `(x, y, z) = (c / 16, c / 4 % 4, c % 4)`.  It exchanges rows with three others, which three
involutions of the mesh give: `px` across `x`, `pa` within the pairs `y = 0, 1` and `y = 2, 3`, and `mi`, which
turns the column over and so pairs `y = 1` with `y = 2`.  The devices with `y = 1, 2` are `inner`.
-/
module

public import proofs.«01_k».proof.Proof.Gen.KernelIdeal
public import proofs.«01_k».proof.Proof.Phases

@[expose] public section

noncomputable section

namespace Cert.Gather

open Idealize.ShloMosaic Idealize.SL.Sem
open Cert.KernelIdeal Cert.KernelIdeal.Gen

abbrev Dv : Type := Dev nD

/-- Across `x`. -/
def px (c : Dv) : Dv := ⟨(c.val + 16) % 32, Nat.mod_lt _ (by decide)⟩
/-- The neighbour in the pair `y = 0, 1` or `y = 2, 3`. -/
def pa (c : Dv) : Dv :=
  ⟨(16 * (c.val / 16) + 4 * (if c.val / 4 % 4 % 2 = 0 then c.val / 4 % 4 + 1 else c.val / 4 % 4 - 1) + c.val % 4) % 32,
    Nat.mod_lt _ (by decide)⟩
/-- The column turned over. -/
def mi (c : Dv) : Dv := ⟨(16 * (c.val / 16) + 4 * (3 - c.val / 4 % 4) + c.val % 4) % 32, Nat.mod_lt _ (by decide)⟩

/-- In the middle of its column. -/
def inner (c : Dv) : Bool := c.val / 4 % 4 == 1 || c.val / 4 % 4 == 2

theorem px_px : ∀ c, px (px c) = c := by decide
theorem pa_pa : ∀ c, pa (pa c) = c := by decide
theorem mi_mi : ∀ c, mi (mi c) = c := by decide
theorem inner_px : ∀ c, inner (px c) = inner c := by decide
theorem inner_pa : ∀ c, inner (pa c) = !inner c := by decide
theorem inner_mi : ∀ c, inner (mi c) = inner c := by decide
theorem pa_px : ∀ c, pa (px c) = px (pa c) := by decide
theorem px_ne : ∀ c, px c ≠ c := by decide
theorem pa_ne : ∀ c, pa c ≠ c := by decide
theorem mi_ne : ∀ c, mi c ≠ c := by decide

/-! ## What the printed body computes -/

theorem dev1 : ∀ c : Dv, (⟨k0_dev1 c, k0_dev1_lt c⟩ : Dv) = px c := by decide +kernel
theorem cond5_edge : ∀ c : Dv, inner c = false → k0_cond5 c = 1#1 := by decide +kernel
theorem cond5_inner : ∀ c : Dv, inner c = true → ¬ k0_cond5 c = 1#1 := by decide +kernel
theorem cond6_edge : ∀ c : Dv, inner c = false → ¬ k0_cond6 c = 1#1 := by decide +kernel
theorem cond6_inner : ∀ c : Dv, inner c = true → k0_cond6 c = 1#1 := by decide +kernel
theorem cond7_edge : ∀ c : Dv, inner c = false → k0_cond7 c = 1#1 := by decide +kernel
theorem cond7_inner : ∀ c : Dv, inner c = true → ¬ k0_cond7 c = 1#1 := by decide +kernel
theorem midK_eq : ∀ c h, midK c h = fun _ => mi c := by
  have H : ∀ c h k, midK c h k = mi c := by decide +kernel
  exact fun c h => funext (H c h)
theorem paK_eq : ∀ c h, paK c h = fun _ => pa c := by
  have H : ∀ c h k, paK c h k = pa c := by decide +kernel
  exact fun c h => funext (H c h)
theorem pxK_eq : ∀ c h, pxK c h = fun _ => px c := by
  have H : ∀ c h k, pxK c h k = px c := by decide +kernel
  exact fun c h => funext (H c h)
theorem paE_eq : ∀ c h, paE c h = fun _ => pa c := by
  have H : ∀ c h k, paE c h k = pa c := by decide +kernel
  exact fun c h => funext (H c h)
theorem pxE_eq : ∀ c h, pxE c h = fun _ => px c := by
  have H : ∀ c h k, pxE c h k = px c := by decide +kernel
  exact fun c h => funext (H c h)

/-- `y + 1` is taken where `y < 3`, and `y - 1` where `y > 0`. -/
theorem cond1_iff : ∀ c : Dv, k0_cond1 c = 1#1 ↔ c.val / 4 % 4 ≠ 3 := by decide +kernel
theorem cond2_iff : ∀ c : Dv, k0_cond2 c = 1#1 ↔ c.val / 4 % 4 ≠ 0 := by decide +kernel
theorem dev2_pa : ∀ c : Dv, ∀ h, c.val / 4 % 4 % 2 = 0 → (⟨k0_dev2 c, k0_dev2_lt c h⟩ : Dv) = pa c := by decide +kernel
theorem dev2_mi : ∀ c : Dv, ∀ h, c.val / 4 % 4 % 2 = 1 → (⟨k0_dev2 c, k0_dev2_lt c h⟩ : Dv) = mi c := by decide +kernel
theorem dev3_pa : ∀ c : Dv, ∀ h, c.val / 4 % 4 % 2 = 1 → (⟨k0_dev3 c, k0_dev3_lt c h⟩ : Dv) = pa c := by decide +kernel
theorem dev3_mi : ∀ c : Dv, ∀ h, c.val / 4 % 4 % 2 = 0 → (⟨k0_dev3 c, k0_dev3_lt c h⟩ : Dv) = mi c := by decide +kernel

end Cert.Gather

end
-- ==== Proof.Chunks.lean ====
/-
A buffer of four chunks, held chunk by chunk, and what the steps do to a chunk.

`ch c b k q f` holds chunk `k` of device `c`'s buffer `b` at share `q`; `f` names contents for the whole buffer, of
which only the chunk's elements matter.  So "the chunk holds what `f` says" survives a copy into another buffer with
the same `f`, and a sum of two chunks is the chunk of the sum.
-/
module

public import proofs.«01_k».proof.Proof.Peers
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.ViewIndex
public import Idealize.ShloMosaic.Lib.Writes
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds protocol's copy: duties are named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A buffer's kind of name in the body. -/
abbrev Mr : Type := Memref sig .tc .vmem S4x64x512 .f32
/-- Contents of a buffer of four chunks. -/
abbrev Vol (F : FTy → Type) : Type := FVec F S4x64x512 .f32

abbrev stg : Mr := Memref.whole cc0_stg0_0
abbrev s0 : Mr := Memref.whole cc0_scratch0
abbrev s1 : Mr := Memref.whole cc0_scratch1
abbrev s2 : Mr := Memref.whole cc0_scratch2
abbrev s3 : Mr := Memref.whole cc0_scratch3
abbrev s4 : Mr := Memref.whole cc0_scratch4
abbrev ob : Memref sig .tc .vmem S512x512 .f32 := Memref.whole cc0_stg1_0

/-- Four of a kind, side by side. -/
abbrev all4 {M : Type} [URA M] (P : Fin 4 → sProp M) : sProp M := iprop(P 0 ∗ P 1 ∗ P 2 ∗ P 3)

theorem all4_eq {M : Type} [URA M] (P : Fin 4 → sProp M) : bigSep Finset.univ P = all4 P :=
  bigSep_univ_eq_bigSepL [0, 1, 2, 3] (by decide) (by decide) P

/-! ## Holding a chunk -/

/-- Chunk `k` of device `c`'s buffer `b`, at share `q`, holding what `f` says. -/
abbrev ch (c : Dv) (b : Mr) (k : Fin 4) (q : PosShare TreeShare) (f : b.view.ty.Contents (Elt F)) : sProp 𝕄 :=
  (ck b k).view.loc (c : Thread nD τ) ↦[(ck b k).view.set]{q} f

/-- What a load of chunk `k` reads. -/
abbrev rd (b : Mr) (k : Fin 4) (f : b.view.ty.Contents (Elt F)) : Vec F S1x64x512 .f32 := (b.access (ckRect k)).read (Elt F) f

theorem ck_set (b : Mr) (k : Fin 4) : (ck b k).view.set = (b.access (ckRect k)).set := View.set_reshape _ _

/-- Only the chunk's own elements matter. -/
theorem ch_congr {c : Dv} {b : Mr} {k : Fin 4} {q : PosShare TreeShare} {f g : b.view.ty.Contents (Elt F)}
    (h : rd b k f = rd b k g) : (ch c b k q f : sProp 𝕄) = ch c b k q g := by
  refine pointsTo_congr fun i hi => ?_
  rw [ck_set] at hi
  obtain ⟨x, -, rfl⟩ := Finset.mem_map.mp hi
  exact (Equiv.cast (congrArg (Elt F) (b.access (ckRect k)).elt_eq)).injective (congrFun h x)

/-- Overwriting a chunk with what `g` reads there leaves the chunk at `g`. -/
theorem ch_store {c : Dv} {b : Mr} {k : Fin 4} {q : PosShare TreeShare} {f g : b.view.ty.Contents (Elt F)}
    {w : Vec F S1x64x512 .f32} (h : w = rd b k g) :
    (ch c b k q ((b.access (ckRect k)).write (Elt F) f w Finset.univ) : sProp 𝕄) = ch c b k q g := by
  refine ch_congr ?_
  subst h
  exact View.read_write_univ _ _

/-- A landed copy leaves the target's chunk at what the source's says. -/
theorem ch_copy {c : Dv} {b b' : Mr} {k : Fin 4} {q : PosShare TreeShare} {fd g : b'.view.ty.Contents (Elt F)}
    {fs : b.view.ty.Contents (Elt F)} (h : rd b k fs = rd b' k g) :
    (ch c b' k q ((ck b' k).view.write (Elt F) fd ((ck b k).view.read (Elt F) fs) Finset.univ) : sProp 𝕄)
      = ch c b' k q g := by
  refine ch_congr ?_
  have e : (ck b k).view.read (Elt F) fs = (ck b' k).view.read (Elt F) g := by
    funext x
    exact congrFun h (Shape.reshapeEquiv _ x)
  rw [e]
  have e2 := View.read_write_univ (v := (ck b' k).view) (Val := Elt F) fd ((ck b' k).view.read (Elt F) g)
  funext y
  have hn : S64x512.numel = S1x64x512.numel := by decide
  have hy : Shape.reshapeEquiv hn ((Shape.reshapeEquiv hn).symm y) = y := Equiv.apply_symm_apply _ _
  have h3 := congrFun e2 ((Shape.reshapeEquiv hn).symm y)
  change rd b' k _ (Shape.reshapeEquiv hn ((Shape.reshapeEquiv hn).symm y))
    = rd b' k g (Shape.reshapeEquiv hn ((Shape.reshapeEquiv hn).symm y)) at h3
  rwa [hy] at h3

/-- The sum of two chunks is the chunk of the sum. -/
theorem addc_eq (b : Mr) (k : Fin 4) (u v : Vec F S1x64x512 .f32) : addc u v = fun x => FloatOps.addf (u x) (v x) := by
  funext x
  unfold addc k0_pay1
  exact congrFun (shapeCast_shapeCast (s := S1x64x512) (t := S64x512) (fun x => FloatOps.addf (u x) (v x))
    shapeCasts_S1x64x512_S64x512 shapeCasts_S64x512_S1x64x512) x

/-! ## Rows of the result -/

theorem inb_rows : ∀ j : Fin 8, ∀ a, (![64 * j.val, 0] : Fin 2 → Nat) a + S64x512.size a ≤ S512x512.size a := by decide

/-- Rows `64 j` to `64 j + 63`. -/
abbrev rowRect (j : Fin 8) : Rect S512x512 := Rect.unit (s := S512x512) ![64 * j.val, 0] S64x512.size (inb_rows j)

/-- Those rows of device `c`'s result buffer, holding what `f` says. -/
abbrev orowOf (b : Memref sig .tc .vmem S512x512 .f32) (c : Dv) (j : Fin 8) (f : b.view.ty.Contents (Elt F)) : sProp 𝕄 :=
  (b.access (rowRect j)).loc (c : Thread nD τ) ↦[(b.access (rowRect j)).set]{fullShare} f

theorem orowOf_store {b : Memref sig .tc .vmem S512x512 .f32} {c : Dv} {j : Fin 8} {f g : b.view.ty.Contents (Elt F)}
    {w : FVec F S64x512 .f32} (h : w = (b.access (rowRect j)).read (Elt F) g) :
    (orowOf b c j ((b.access (rowRect j)).write (Elt F) f w Finset.univ) : sProp 𝕄) = orowOf b c j g := by
  refine pointsTo_congr fun i hi => ?_
  obtain ⟨x, -, rfl⟩ := Finset.mem_map.mp hi
  subst h
  rw [View.write_emb_of_mem (v := b.access (rowRect j)) f _ (Finset.mem_univ x), View.read_apply, cast_cast, cast_eq]

abbrev orow (c : Dv) (j : Fin 8) (f : FVec F S512x512 .f32) : sProp 𝕄 := orowOf ob c j f

/-! ## A buffer is its chunks -/

theorem ck_disj (k k' : Fin 4) (h : k ≠ k') : Disjoint (ckRect k).set (ckRect k').set := by
  rw [Finset.disjoint_left]
  intro i hi hi'
  have h1 := Rect.mem_set_unit.mp hi (0 : Fin 3)
  have h2 := Rect.mem_set_unit.mp hi' (0 : Fin 3)
  simp only [Matrix.cons_val_zero, show S1x64x512.size (0 : Fin 3) = 1 from rfl] at h1 h2
  exact h (Fin.ext (by omega))

theorem ck_cover (i : S4x64x512.Idx) : ∃ k : Fin 4, i ∈ (ckRect k).set := by
  refine ⟨⟨(i 0).val, (i 0).isLt⟩, Rect.mem_set_unit.mpr fun a => ?_⟩
  have h1 := (i 1).isLt
  have h2 := (i 2).isLt
  fin_cases a
  · exact ⟨le_refl _, Nat.lt_succ_self _⟩
  · exact ⟨Nat.zero_le _, by simpa using h1⟩
  · exact ⟨Nat.zero_le _, by simpa using h2⟩

theorem chunks_disj (b : Mr) (k k' : Fin 4) (h : k ≠ k') : Disjoint (ck b k).view.set (ck b k').view.set := by
  rw [ck_set, ck_set, View.set_slice, View.set_slice]
  exact (Finset.disjoint_map _).mpr (ck_disj k k' h)

theorem chunks_cover (b : Mr) (hb : b.view.set = Finset.univ) :
    (Finset.univ : Finset (Fin 4)).biUnion (fun k => (show Finset b.view.ty.Idx from (ck b k).view.set)) = (Finset.univ : Finset b.view.ty.Idx) := by
  refine Finset.eq_univ_iff_forall.mpr fun i => ?_
  have hi : i ∈ b.view.set := hb ▸ Finset.mem_univ i
  obtain ⟨y, -, rfl⟩ := Finset.mem_map.mp hi
  obtain ⟨k, hk⟩ := ck_cover y
  refine Finset.mem_biUnion.mpr ⟨k, Finset.mem_univ _, ?_⟩
  show b.view.emb y ∈ (ck b k).view.set
  rw [ck_set, View.set_slice]
  exact Finset.mem_map.mpr ⟨y, hk, rfl⟩

/-- A buffer held whole is held chunk by chunk. -/
theorem whole_chunks (c : Dv) (b : Mr) (hb : b.view.set = Finset.univ) (q : PosShare TreeShare) (f : b.view.ty.Contents (Elt F)) :
    (b.view.loc (c : Thread nD τ) ↦{q} f : sProp 𝕄) = all4 fun k => ch c b k q f := by
  rw [← all4_eq]
  exact Ring.pointsTo_blocks (ℓ := b.view.loc (c : Thread nD τ)) (fun k => (ck b k).view.set)
    (chunks_disj b) (chunks_cover b hb) f

/-- Chunks at contents of their own make the buffer at some contents. -/
theorem chunks_whole (c : Dv) (b : Mr) (hb : b.view.set = Finset.univ) (q : PosShare TreeShare)
    (f₀ : b.view.ty.Contents (Elt F)) :
    (all4 fun k => iprop(∃ f, ch c b k q f)) ⊢ (iprop(∃ f, b.view.loc (c : Thread nD τ) ↦{q} f) : sProp 𝕄) := by
  rw [← all4_eq]
  exact Ring.pointsTo_blocks_join_exists (ℓ := b.view.loc (c : Thread nD τ)) (fun k => (ck b k).view.set)
    (chunks_disj b) (chunks_cover b hb) f₀

theorem row_disj (k k' : Fin 8) (h : k ≠ k') : Disjoint (rowRect k).set (rowRect k').set := by
  rw [Finset.disjoint_left]
  intro i hi hi'
  have h1 := Rect.mem_set_unit.mp hi (0 : Fin 2)
  have h2 := Rect.mem_set_unit.mp hi' (0 : Fin 2)
  simp only [Matrix.cons_val_zero, show S64x512.size (0 : Fin 2) = 64 from rfl] at h1 h2
  exact h (Fin.ext (by omega))

theorem row_cover (i : S512x512.Idx) : ∃ k : Fin 8, i ∈ (rowRect k).set := by
  have h0 : (i 0).val < 512 := (i 0).isLt
  have h1 : (i 1).val < 512 := (i 1).isLt
  refine ⟨⟨(i 0).val / 64, by omega⟩, Rect.mem_set_unit.mpr fun a => ?_⟩
  fin_cases a
  · constructor
    · show 64 * ((i 0).val / 64) ≤ (i 0).val; omega
    · show (i 0).val < 64 * ((i 0).val / 64) + 64; omega
  · exact ⟨Nat.zero_le _, by simpa using h1⟩

theorem rows_cover (b : Memref sig .tc .vmem S512x512 .f32) (hb : b.view.set = Finset.univ) :
    (Finset.univ : Finset (Fin 8)).biUnion (fun k => (show Finset b.view.ty.Idx from (b.access (rowRect k)).set))
      = (Finset.univ : Finset b.view.ty.Idx) := by
  refine Finset.eq_univ_iff_forall.mpr fun i => ?_
  have hi : i ∈ b.view.set := hb ▸ Finset.mem_univ i
  obtain ⟨y, -, rfl⟩ := Finset.mem_map.mp hi
  obtain ⟨k, hk⟩ := row_cover y
  refine Finset.mem_biUnion.mpr ⟨k, Finset.mem_univ _, ?_⟩
  show b.view.emb y ∈ (b.access (rowRect k)).set
  rw [View.set_slice]
  exact Finset.mem_map.mpr ⟨y, hk, rfl⟩

theorem rows_disj (b : Memref sig .tc .vmem S512x512 .f32) (k k' : Fin 8) (h : k ≠ k') :
    Disjoint (b.access (rowRect k)).set (b.access (rowRect k')).set := by
  rw [View.set_slice, View.set_slice]
  exact (Finset.disjoint_map _).mpr (row_disj k k' h)

/-- A buffer of 512 rows held whole is held by its eight blocks of rows. -/
theorem whole_rowsOf (b : Memref sig .tc .vmem S512x512 .f32) (hb : b.view.set = Finset.univ) (c : Dv)
    (f : b.view.ty.Contents (Elt F)) :
    (b.view.loc (c : Thread nD τ) ↦{fullShare} f : sProp 𝕄) = bigSep Finset.univ fun j => orowOf b c j f :=
  Ring.pointsTo_blocks (ℓ := b.view.loc (c : Thread nD τ)) (fun k => (b.access (rowRect k)).set)
    (rows_disj b) (rows_cover b hb) f

/-- The result held whole is held by its eight blocks of rows. -/
theorem whole_rows (c : Dv) (f : FVec F S512x512 .f32) :
    (ob.view.loc (c : Thread nD τ) ↦{fullShare} f : sProp 𝕄) = bigSep Finset.univ fun j => orow c j f :=
  whole_rowsOf ob (View.set_whole _) c f

/-- Chunk by chunk, each chunk's rows in either half of the result. -/
theorem rows_lanes (c : Dv) (f : FVec F S512x512 .f32) :
    (ob.view.loc (c : Thread nD τ) ↦{fullShare} f : sProp 𝕄)
      = all4 fun k => iprop(orow c (k.castAdd 4) f ∗ orow c (k.natAdd 4) f) := by
  rw [whole_rows]
  have e := bigSep_univ_eq_bigSepL (M := 𝕄) [(0 : Fin 8), 4, 1, 5, 2, 6, 3, 7] (by decide) (by decide) fun j => orow c j f
  rw [e]
  have h1 : (iprop(orow c 0 f ∗ orow c 4 f ∗ orow c 1 f ∗ orow c 5 f ∗ orow c 2 f ∗ orow c 6 f ∗ orow c 3 f ∗ orow c 7 f) : sProp 𝕄)
      ⊢ all4 fun k => iprop(orow c (k.castAdd 4) f ∗ orow c (k.natAdd 4) f) := by
    iintro ⟨H0, H4, H1, H5, H2, H6, H3, H7⟩
    isplitl [H0 H4]
    · isplitl [H0]; · iexact H0
      iexact H4
    isplitl [H1 H5]
    · isplitl [H1]; · iexact H1
      iexact H5
    isplitl [H2 H6]
    · isplitl [H2]; · iexact H2
      iexact H6
    isplitl [H3]; · iexact H3
    iexact H7
  have h2 : (all4 fun k => iprop(orow c (k.castAdd 4) f ∗ orow c (k.natAdd 4) f) : sProp 𝕄)
      ⊢ iprop(orow c 0 f ∗ orow c 4 f ∗ orow c 1 f ∗ orow c 5 f ∗ orow c 2 f ∗ orow c 6 f ∗ orow c 3 f ∗ orow c 7 f) := by
    iintro ⟨⟨H0, H4⟩, ⟨H1, H5⟩, ⟨H2, H6⟩, H3, H7⟩
    isplitl [H0]; · iexact H0
    isplitl [H4]; · iexact H4
    isplitl [H1]; · iexact H1
    isplitl [H5]; · iexact H5
    isplitl [H2]; · iexact H2
    isplitl [H6]; · iexact H6
    isplitl [H3]; · iexact H3
    iexact H7
  exact BI.equiv_iff.mp ⟨h1, h2⟩

end Cert.Gather

end
-- ==== Proof.Protocol.lean ====
/-
The protocol between the devices.

Eight families of four semaphores, one per chunk; a copy of a chunk signals one family on the sender (when the source
may be reused) and one on the receiver (when the rows are there):

  sent     arrived   from                        to                          carrying
  0        1         an end device, its input    its partner, buffer 1       its own rows
  2        3         a middle device, the sum    the other middle, buffer 2  the pair's sum
  4        5         a middle device, the sum    its partner, buffer 3       the column's sum
  6        7         every device, that sum      across x, buffer 4          the column's sum

and a barrier, at which a device tells each peer which of its buffers the peer may write.  Every semaphore is used
for one round.  `pay` and `barPay` say what each round hands over, with the contents.
-/
module

public import proofs.«01_k».proof.Proof.Chunks

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the buffers hold -/

variable (G : Dv → Vol F)

/-- The pair's sum, on a middle device. -/
def A (c : Dv) : Vol F := addf (G c) (G (pa c))
/-- The column's sum, on a middle device. -/
def B (c : Dv) : Vol F := addf (A G c) (A G (mi c))
/-- The column's sum, on any device. -/
def T (c : Dv) : Vol F := if inner c then B G c else B G (pa c)

theorem T_inner {c : Dv} (h : inner c = true) : T G c = B G c := if_pos h
theorem T_edge {c : Dv} (h : inner c = false) : T G c = B G (pa c) := if_neg (by simp [h])

/-! ## Cells -/

/-- The eight families. -/
abbrev fam : Fin 8 → DmaSems sig S4
  | 0 => cc0_scratch5 | 1 => cc0_scratch6 | 2 => cc0_scratch7 | 3 => cc0_scratch8
  | 4 => cc0_scratch9 | 5 => cc0_scratch10 | 6 => cc0_scratch11 | 7 => cc0_scratch12

/-- Which family a semaphore is of, and for which chunk. -/
def dj (q : DmaSem sig) : Fin 8 := ⟨(q.val - 2) / 4 % 8, Nat.mod_lt _ (by decide)⟩
def dk (q : DmaSem sig) : Fin 4 := ⟨(q.val - 2) % 4, Nat.mod_lt _ (by decide)⟩

theorem dj_sm : ∀ j k, dj (sm (fam j) k) = j := by decide
theorem dk_sm : ∀ j k, dk (sm (fam j) k) = k := by decide
theorem sm_ge : ∀ j k, 2 ≤ (sm (fam j) k).val := by decide

/-- The barrier's semaphore. -/
abbrev barS : Sem sig := (SemArray.scalar (sig.barrier 0 rfl) : Sems sig S_).sem

abbrev cell (c : Dv) (j : Fin 8) (k : Fin 4) : GSem nD τ sig := ((c : Thread nD τ), .dma (sm (fam j) k))
abbrev bar (c : Dv) : GSem nD τ sig := ((c : Thread nD τ), .reg barS)

/-- What one chunk's copy counts. -/
abbrev N : ℕ := (ck s0 0).view.dmaCredit
theorem N_pos : 0 < N := View.dmaCredit_pos _ (by decide)

/-! ## What the rounds hand over -/

/-- What the copy that signals `cell c j k` hands over there. -/
def pay (c : Dv) : Fin 8 → Fin 4 → sProp 𝕄
  | 0, k => ch c stg k fullShare (G c)
  | 1, k => ch c s1 k fullShare (G (pa c))
  | 2, k => ch c s0 k fullShare (A G c)
  | 3, k => ch c s2 k fullShare (A G (mi c))
  | 4, k => ch c s0 k fullShare.left (B G c)
  | 5, k => ch c s3 k fullShare (B G (pa c))
  | 6, k => if inner c then ch c s0 k fullShare.right (B G c) else ch c s3 k fullShare (T G c)
  | 7, k => ch c s4 k fullShare (T G (px c))

/-- Device `n` lends its buffer `b` to the copies signalling its family `j`. -/
def barPay (n : Dv) (b : Mr) (j : Fin 8) : sProp 𝕄 :=
  all4 fun k => iprop((∃ f, ch n b k fullShare f) ∗ reached ER (cell n j k) 0)

/-- What the three peers' signals at the barrier hand over. -/
def bpay (c : Dv) : Fin 3 → sProp 𝕄
  | 0 => barPay (px c) s4 7
  | 1 => if inner c then barPay (pa c) s3 5 else barPay (pa c) s1 1
  | 2 => barPay (mi c) s2 3

/-- The peers who signal a device's barrier. -/
def bduties (c : Dv) : Finset (Fin 3) := if inner c then {0, 1, 2} else {0, 1}

def Rd : Rounds.Schedule (GSem nD τ sig) (Fin 3) 𝕄 where
  duties g r := if r = 0 ∧ g.1.2 = .tc then (match g.2 with | .reg _ => bduties g.1.1 | .dma _ => {0}) else ∅
  unitless _ := False
  amount g _ _ := match g.2 with | .reg _ => 1 | .dma _ => N
  payload g _ d := match g.2 with | .reg _ => bpay g.1.1 d | .dma q => pay G g.1.1 (dj q) (dk q)
  amount_pos g r d h := by
    cases g.2
    · exact Nat.one_pos
    · exact N_pos

instance barPay_storable (n : Dv) (b : Mr) (j : Fin 8) : BI.Storable (upEmb : UEmb _ 𝕄) (barPay n b j) := by
  unfold barPay; infer_instance

instance Rd_payload_storable (g : GSem nD τ sig) (r : ℕ) (d : Fin 3) :
    BI.Storable (upEmb : UEmb _ 𝕄) ((Rd G).payload g r d) := by
  obtain ⟨t, s⟩ := g
  cases s with
  | reg q =>
    show BI.Storable upEmb (bpay t.1 d)
    match d with
    | 0 => exact barPay_storable _ _ _
    | 1 => unfold bpay; dsimp only; split <;> infer_instance
    | 2 => exact barPay_storable _ _ _
  | dma q =>
    show BI.Storable upEmb (pay G t.1 (dj q) (dk q))
    generalize dj q = j
    generalize dk q = k
    fin_cases j <;> unfold pay <;> dsimp only <;> first | infer_instance | (split <;> infer_instance)

section Sched
variable (c : Dv) (j : Fin 8) (k : Fin 4)

theorem duties_cell : (Rd G).duties (cell c j k) 0 = {0} := by dsimp only [Rd]; exact if_pos ⟨rfl, rfl⟩
theorem duties_bar : (Rd G).duties (bar c) 0 = bduties c := by dsimp only [Rd]; exact if_pos ⟨rfl, rfl⟩
theorem duties_later (g : GSem nD τ sig) : ∀ r, 1 ≤ r → (Rd G).duties g r = ∅ :=
  fun r hr => if_neg fun h => by omega
theorem amount_cell (d : Fin 3) : (Rd G).amount (cell c j k) 0 d = N := rfl
theorem amount_bar (d : Fin 3) : (Rd G).amount (bar c) 0 d = 1 := rfl
theorem expect_cell : (Rd G).expect (cell c j k) 0 = N := by
  unfold Schedule.expect Schedule.amountOf; rw [duties_cell, Finset.sum_singleton, amount_cell]
theorem expect_bar : (Rd G).expect (bar c) 0 = if inner c then 3 else 2 := by
  unfold Schedule.expect Schedule.amountOf; rw [duties_bar]
  simp only [amount_bar, Finset.sum_const, smul_eq_mul, mul_one]
  unfold bduties; split <;> rfl
theorem payload_cell (d : Fin 3) : (Rd G).payload (cell c j k) 0 d = pay G c j k := by
  show pay G c (dj (sm (fam j) k)) (dk (sm (fam j) k)) = _
  rw [dj_sm, dk_sm]
theorem payload_bar (d : Fin 3) : (Rd G).payload (bar c) 0 d = bpay c d := rfl
theorem rest_cell : bigSep ((Rd G).duties (cell c j k) 0 \ ∅) (fun d => (Rd G).payload (cell c j k) 0 d) = pay G c j k := by
  rw [Finset.sdiff_empty, duties_cell, bigSep_singleton, payload_cell]
theorem rest_bar_inner (h : inner c = true) :
    bigSep ((Rd G).duties (bar c) 0 \ ∅) (fun d => (Rd G).payload (bar c) 0 d)
      = iprop(barPay (px c) s4 7 ∗ barPay (pa c) s3 5 ∗ barPay (mi c) s2 3) := by
  rw [Finset.sdiff_empty, duties_bar, show bduties c = {0, 1, 2} from if_pos h,
    bigSep_eq_bigSepL_of_eq [0, 1, 2] (by decide) (by decide)]
  show iprop(bpay c 0 ∗ bpay c 1 ∗ bpay c 2) = _
  unfold bpay; simp only [h, if_true]
theorem rest_bar_edge (h : inner c = false) :
    bigSep ((Rd G).duties (bar c) 0 \ ∅) (fun d => (Rd G).payload (bar c) 0 d)
      = iprop(barPay (px c) s4 7 ∗ barPay (pa c) s1 1) := by
  rw [Finset.sdiff_empty, duties_bar, show bduties c = {0, 1} from if_neg (by simp [h]),
    bigSep_eq_bigSepL_of_eq [0, 1] (by decide) (by decide)]
  show iprop(bpay c 0 ∗ bpay c 1) = _
  unfold bpay; simp [h]

end Sched

/-! ## Levels: who may be waited for by whom -/

def L (g : GSem nD τ sig) : Finset Unit := if g.1.2 = .tc then {()} else ∅
/-- A family's level: what a device owes while it waits on a semaphore is higher. -/
def flv : Fin 8 → ℕ | 0 => 0 | 1 => 2 | 2 => 0 | 3 => 3 | 4 => 0 | 5 => 4 | 6 => 0 | 7 => 5
def lv (g : GSem nD τ sig) (_ : Unit) : ℕ :=
  match g.2 with | .reg _ => 1 | .dma q => if q.val < 2 then 0 else flv (dj q)

theorem L_of_ne (g : GSem nD τ sig) (h : g.1.2 ≠ .tc) : L g = ∅ := if_neg h
theorem L_tc (c : Dv) (s : SemLoc sig) : L ((c : Thread nD τ), s) = {()} := if_pos rfl
theorem lv_cell (c : Dv) (j : Fin 8) (k : Fin 4) : lv (cell c j k) () = flv j := by
  show (if (sm (fam j) k).val < 2 then 0 else flv (dj (sm (fam j) k))) = flv j
  rw [dj_sm, if_neg (Nat.not_lt.mpr (sm_ge j k))]
theorem lv_bar (c : Dv) : lv (bar c) () = 1 := rfl

/-- Everything owed is above level `n`. -/
def Above (n : ℕ) (O : CellTallies nD τ sig Unit) : Prop := ∀ g i, 0 < O g i → i ∈ L g ∧ n < lv g i

theorem Above.zero (n : ℕ) : Above n 0 := fun g i h => absurd h (Nat.lt_irrefl 0)
theorem Above.add {n : ℕ} {O O' : CellTallies nD τ sig Unit} (h : Above n O) (h' : Above n O') : Above n (O + O') :=
  fun g i hg => by
    rw [Pi.add_apply, Finsupp.add_apply] at hg
    rcases Nat.add_pos_iff_pos_or_pos.mp hg with hg | hg
    · exact h g i hg
    · exact h' g i hg
theorem Above.mono {n n' : ℕ} (hn : n' ≤ n) {O : CellTallies nD τ sig Unit} (h : Above n O) : Above n' O :=
  fun g i hg => ⟨(h g i hg).1, lt_of_le_of_lt hn (h g i hg).2⟩
theorem Above.tally {n : ℕ} {c : Dv} {s : SemLoc sig} {k : ℕ} (h : n < lv ((c : Thread nD τ), s) ()) :
    Above n (tallyAt ((c : Thread nD τ), s) () k) := fun g i hg => by
  rw [tallyAt_apply] at hg
  by_cases e : g = ((c : Thread nD τ), s) ∧ i = ()
  · rw [e.1]; exact ⟨by rw [L_tc]; exact Finset.mem_singleton_self _, h⟩
  · rw [if_neg e] at hg; exact absurd hg (Nat.lt_irrefl 0)
theorem Above.cell {n : ℕ} {c : Dv} {j : Fin 8} {k : Fin 4} {a : ℕ} (h : n < flv j) : Above n (tallyAt (cell c j k) () a) :=
  Above.tally (by rw [lv_cell]; exact h)

theorem Above.mayWait {n : ℕ} {O : CellTallies nD τ sig Unit} (h : Above n O) {c : Dv} {s : SemLoc sig}
    (hs : lv ((c : Thread nD τ), s) () ≤ n) : (levAts L lv : sProp 𝕄) ⊢ MayWait (c : Thread nD τ) s () O :=
  Pipeline.mayWait_of_levAts (by rw [L_tc]; exact Finset.mem_singleton_self _)
    fun g i hg => ⟨(h g i hg).1, lt_of_le_of_lt hs (h g i hg).2⟩

/-! ## The records every device may consult -/

def barEmb : Dv ↪ GSem nD τ sig := ⟨fun c => bar c, fun _ _ h => congrArg (fun g : GSem nD τ sig => g.1.1) h⟩

theorem sm_inj : ∀ a b : Fin 8 × Fin 4, sm (fam a.1) a.2 = sm (fam b.1) b.2 → a = b := by decide

def scEmb : Dv × (Fin 8 × Fin 4) ↪ GSem nD τ sig :=
  ⟨fun x => cell x.1 x.2.1 x.2.2, fun _ _ h =>
    Prod.ext (congrArg (fun g : GSem nD τ sig => g.1.1) h) (sm_inj _ _ (SemLoc.dma.inj (congrArg Prod.snd h)))⟩

abbrev barCells : Finset (GSem nD τ sig) := Finset.univ.map barEmb
abbrev scCells : Finset (GSem nD τ sig) := Finset.univ.map scEmb

theorem bar_mem (c : Dv) : bar c ∈ (barCells ∪ scCells : Finset (GSem nD τ sig)) :=
  Finset.mem_union_left _ (Finset.mem_map_of_mem barEmb (Finset.mem_univ c))
theorem cell_mem (c : Dv) (j : Fin 8) (k : Fin 4) : cell c j k ∈ (barCells ∪ scCells : Finset (GSem nD τ sig)) :=
  Finset.mem_union_right _ (Finset.mem_map_of_mem scEmb (Finset.mem_univ (c, j, k)))

/-- All the invariants, the barriers' first rounds, the levels. -/
def ctx (K : GSem nD τ sig → ℕ) : sProp 𝕄 :=
  iprop((bigSep (barCells ∪ scCells) fun g => cellInv ER (Rd G) (K g) g) ∗ (bigSep barCells fun g => reached ER g 0) ∗ levAts L lv)

instance ctx_persistent (K : GSem nD τ sig → ℕ) : BI.Persistent (ctx G K) := by unfold ctx; infer_instance

theorem ctx_cell (K : GSem nD τ sig → ℕ) (c : Dv) (j : Fin 8) (k : Fin 4) :
    ctx G K ⊢ cellInv ER (Rd G) (K (cell c j k)) (cell c j k) := by
  unfold ctx; iintro ⟨H, -⟩
  iapply (show (bigSep (barCells ∪ scCells) fun g => (cellInv ER (Rd G) (K g) g : sProp 𝕄)) ⊢ _ from bigSep_elim (cell_mem c j k)); iexact H
theorem ctx_bar (K : GSem nD τ sig → ℕ) (c : Dv) : ctx G K ⊢ cellInv ER (Rd G) (K (bar c)) (bar c) := by
  unfold ctx; iintro ⟨H, -⟩
  iapply (show (bigSep (barCells ∪ scCells) fun g => (cellInv ER (Rd G) (K g) g : sProp 𝕄)) ⊢ _ from bigSep_elim (bar_mem c)); iexact H
theorem ctx_reached (K : GSem nD τ sig → ℕ) (c : Dv) : ctx G K ⊢ reached ER (bar c) 0 := by
  unfold ctx; iintro ⟨-, H, -⟩
  iapply (show (bigSep barCells fun g => (reached ER g 0 : sProp 𝕄)) ⊢ _ from bigSep_elim (Finset.mem_map_of_mem barEmb (Finset.mem_univ c))); iexact H
theorem ctx_mayWait (K : GSem nD τ sig → ℕ) {n : ℕ} {O : CellTallies nD τ sig Unit} (h : Above n O) {c : Dv} {s : SemLoc sig}
    (hs : lv ((c : Thread nD τ), s) () ≤ n) : ctx G K ⊢ MayWait (c : Thread nD τ) s () O := by
  unfold ctx; iintro ⟨-, -, H⟩
  iapply (Above.mayWait h hs); iexact H

end Cert.Gather

end
-- ==== Proof.Steps.lean ====
/-
One rule per kind of step, each for a symbolic device, chunk and buffer.
-/
module

public import proofs.«01_k».proof.Proof.Protocol

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition on device `c`'s TensorCore. -/
abbrev Wp (c : Dv) {α : Type} (p : TcProg F α) (Q : α → sProp 𝕄) : sProp 𝕄 :=
  wp frame (wpE (defs₀ (F := F)) 𝒱₀ (c : Thread nD τ) none) Set.univ p Q

theorem Wp_bind (c : Dv) {α β : Type} (p : TcProg F α) (k : α → TcProg F β) (Q : β → sProp 𝕄) :
    Wp c (p >>= k) Q = Wp c p fun a => Wp c (k a) Q := by unfold Wp; exact wp_bind ..

/-- What device `c` owes. -/
abbrev ow (c : Dv) (O : CellTallies nD τ sig Unit) : sProp 𝕄 := iprop(∃ W, owes (c : Thread nD τ) O W)
/-- A semaphore before its wait, after it; the credit to wait with. -/
abbrev WB (c : Dv) (j : Fin 8) (k : Fin 4) : sProp 𝕄 := atPos ER (cell c j k) 0 ∅ 0
abbrev WD (c : Dv) (j : Fin 8) (k : Fin 4) : sProp 𝕄 := atPos ER (cell c j k) (0 + 1) ∅ 0
abbrev CR (c : Dv) (j : Fin 8) (k : Fin 4) : sProp 𝕄 := cred (tallyAt (cell c j k) () N)
/-- The right to copy chunk `k` into `n`'s `dst`, with the rights to signal both ends. -/
abbrev SB (c : Dv) (j : Fin 8) (n : Dv) (j' : Fin 8) (k : Fin 4) (dst : Mr) : sProp 𝕄 :=
  iprop((dutyTok ER (cell c j k) 0 0 ∗ reached ER (cell c j k) 0) ∗ dutyTok ER (cell n j' k) 0 0
    ∗ (∃ f, ch n dst k fullShare f) ∗ reached ER (cell n j' k) 0)

variable (G : Dv → Vol F) (K : GSem nD τ sig → ℕ)

theorem wait_step (c : Dv) (j : Fin 8) (k : Fin 4) (src dst : Mr) (hN : (ck dst k).view.dmaCredit = N)
    {n : ℕ} {O : CellTallies nD τ sig Unit} (hO : Above n O) (hj : flv j ≤ n) (Q : PUnit → sProp 𝕄) :
    iprop(ctx G K ∗ (WB c j k ∗ CR c j k) ∗ ow c O)
      ⊢ iprop(((WD c j k ∗ pay G c j k ∗ ow c O) -∗ Q ⟨⟩) -∗ Wp c (wt (fam j) src dst k) Q) := by
  iintro ⟨#HI, ⟨Hat, Hc⟩, ⟨%W, HO⟩⟩ Hk
  iapply (Rounds.wp_wait_rest_token 𝒱₀ ER (Rd G) (c : Thread nD τ) none (κ := K (cell c j k))
      (wpE_waitDma2_eq (src := ck src k) (dst := ck dst k) 𝒱₀ (c : Thread nD τ) none Set.univ) (Set.mem_univ _) () (O := O) (W := W) (R := 0) (m := 0) (T := ∅)
      (by rw [Nat.zero_add, hN, expect_cell])) $$ [Hc HO Hat]
  · isplitr; · iapply (ctx_cell G K c j k); iexact HI
    isplitl [Hc]; · rw [hN]; iexact Hc
    isplitl [HO]; · iexact HO
    isplitr; · iapply (ctx_mayWait G K hO (c := c) (s := .dma (sm (fam j) k)) (by rw [lv_cell]; exact hj)); iexact HI
    iexact Hat
  iintro ⟨HO, Hat, -, Hpay⟩
  rw [wp_ret]
  imodintro
  iapply Hk
  isplitl [Hat]; · iexact Hat
  isplitl [Hpay]; · iapply (Entails.of_eq (rest_cell G c j k)); iexact Hpay
  iexists _; iexact HO

theorem snd_step (c n n' : Dv) (hn : n' = n) (j j' : Fin 8) (k : Fin 4) (src dst : Mr) (q : PosShare TreeShare)
    (hN : (ck dst k).view.amount (.dma (sm (fam j') k)) = N)
    (fs : src.view.ty.Contents (Elt F))
    (h₁ : ch c src k q fs ⊢ pay G c j k)
    (h₂ : ∀ fd, ch n dst k fullShare ((ck dst k).view.write (Elt F) fd ((ck src k).view.read (Elt F) fs) Finset.univ) ⊢ pay G n j' k)
    (O : CellTallies nD τ sig Unit) (Q : PUnit → sProp 𝕄) :
    iprop(ctx G K ∗ (ch c src k q fs ∗ SB c j n j' k dst) ∗ ow c (tallyAt (cell n j' k) () N + O))
      ⊢ iprop(((CR c j k ∗ ow c O) -∗ Q ⟨⟩) -∗ Wp c (snd src n' dst (fam j) (fam j') k) Q) := by
  subst hn
  iintro ⟨#HI, ⟨Hs, ⟨Ht, #Hr⟩, Ht', ⟨%fd, Hd⟩, #Hr'⟩, ⟨%W, HO⟩⟩ Hk
  iapply (Rounds.wp_send_pointsTo 𝒱₀ ER (Rd G) (c : Thread nD τ) none (c' := (n' : Thread nD τ)) (src := ck src k) (dst := ck dst k)
      (sS := .dma (sm (fam j) k)) (sem := .dma (sm (fam j') k)) (q := q) (fs := fs) (fd := fd) (κ₁ := K (cell c j k)) (κ₂ := K (cell n' j' k))
      (r₁ := 0) (r₂ := 0) (d₁ := 0) (d₂ := 0)
      (by rw [duties_cell]; exact Finset.mem_singleton_self _) (by rw [duties_cell]; exact Finset.mem_singleton_self _)
      () () N hN (amount_cell G c j k 0) (amount_cell G n' j' k 0) O (add_comm _ _) (W := W)
      (by rw [payload_cell]; exact h₁) (by rw [payload_cell]; exact h₂ fd)) $$ [Hs Hd HO Ht Ht']
  · isplitr; · iapply (ctx_cell G K c j k); iexact HI
    isplitr; · iapply (ctx_cell G K n' j' k); iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  rw [wp_ret]
  imodintro
  iapply Hk
  isplitl [Hc]; · iexact Hc
  iexists _; iexact HO

theorem ld_step (c : Dv) (b : Mr) (k : Fin 4) (q : PosShare TreeShare) (f : b.view.ty.Contents (Elt F))
    (Q : Vec F S1x64x512 .f32 → sProp 𝕄) :
    ch c b k q f ⊢ iprop((ch c b k q f -∗ Q (rd b k f)) -∗ Wp c (ld b k) Q) := by
  unfold ch
  rw [ck_set]
  iintro H Hk
  iapply (wp_load_rect (m := b) (r := ckRect k) 𝒱₀ (c : Thread nD τ) none Set.univ (Finset.Subset.refl _)) $$ H
  iintro H
  rw [wp_ret]
  imodintro
  iapply Hk; iexact H

theorem sto_step (c : Dv) (b : Mr) (k : Fin 4) (f g : b.view.ty.Contents (Elt F)) (w : FVec F S1x64x512 .f32)
    (hw : w = rd b k g) (Q : PUnit → sProp 𝕄) :
    ch c b k fullShare f ⊢ iprop((ch c b k fullShare g -∗ Q ⟨⟩) -∗ Wp c (sto b k w) Q) := by
  rw [← ch_store (c := c) (f := f) hw]
  unfold ch
  rw [ck_set]
  iintro H Hk
  iapply (wp_store (m := b) (r := ckRect k) (Mk := Finset.univ) (S := (b.access (ckRect k)).set) 𝒱₀ (c : Thread nD τ) none Set.univ (by rw [View.setOn_univ])) $$ H
  iintro H
  rw [wp_ret]
  imodintro
  iapply Hk; iexact H

theorem outp_step (c : Dv) (j : Fin 8) (off : Fin 2 → Nat) (h : ∀ a, off a + S64x512.size a ≤ S512x512.size a)
    (ho : off = ![64 * j.val, 0]) (f g : FVec F S512x512 .f32) (w : FVec F S64x512 .f32)
    (hw : w = (ob.access (rowRect j)).read (Elt F) g) (Q : PUnit → sProp 𝕄) :
    orow c j f ⊢ iprop((orow c j g -∗ Q ⟨⟩) -∗ Wp c (outp ob off h w) Q) := by
  subst ho
  rw [show orow c j g = _ from (orowOf_store (b := ob) (c := c) (f := f) hw).symm]
  unfold outp
  rw [Wp_bind]
  iintro H Hk
  iapply (wp_load_rect (m := ob) (r := rowRect j) 𝒱₀ (c : Thread nD τ) none Set.univ (Finset.Subset.refl _)) $$ H
  iintro H
  rw [wp_ret]
  imodintro
  iapply (wp_store (m := ob) (r := rowRect j) (Mk := Finset.univ) (S := (ob.access (rowRect j)).set) 𝒱₀ (c : Thread nD τ) none Set.univ (by rw [View.setOn_univ])) $$ H
  iintro H
  rw [wp_ret]
  imodintro
  iapply Hk; iexact H

/-- A step done on the four chunks in turn; chunk `k`'s discharges `t k`. -/
theorem four_rule (c : Dv) (p : Fin 4 → TcProg F PUnit) (P R : Fin 4 → sProp 𝕄) (n : ℕ)
    (t : Fin 4 → CellTallies nD τ sig Unit) (O : CellTallies nD τ sig Unit) (ht : ∀ k, Above n (t k)) (hO : Above n O)
    (h : ∀ k O, Above n O → ∀ Q : PUnit → sProp 𝕄,
      iprop(ctx G K ∗ P k ∗ ow c (t k + O)) ⊢ iprop(((R k ∗ ow c O) -∗ Q ⟨⟩) -∗ Wp c (p k) Q))
    (Q : PUnit → sProp 𝕄) :
    iprop(ctx G K ∗ all4 P ∗ ow c (t 0 + (t 1 + (t 2 + (t 3 + O)))))
      ⊢ iprop(((all4 R ∗ ow c O) -∗ Q ⟨⟩) -∗ Wp c (four p) Q) := by
  have h3 := (ht 3).add hO
  have h2 := (ht 2).add h3
  have h1 := (ht 1).add h2
  simp only [four, Wp_bind]
  iintro ⟨#HI, ⟨H0, H1, H2, H3⟩, HO⟩ Hk
  iapply (h 0 _ h1 _) $$ [H0 HO]
  · isplitr; · iexact HI
    isplitl [H0] <;> iassumption
  iintro ⟨R0, HO⟩
  iapply (h 1 _ h2 _) $$ [H1 HO]
  · isplitr; · iexact HI
    isplitl [H1] <;> iassumption
  iintro ⟨R1, HO⟩
  iapply (h 2 _ h3 _) $$ [H2 HO]
  · isplitr; · iexact HI
    isplitl [H2] <;> iassumption
  iintro ⟨R2, HO⟩
  iapply (h 3 _ hO _) $$ [H3 HO]
  · isplitr; · iexact HI
    isplitl [H3] <;> iassumption
  iintro ⟨R3, HO⟩
  iapply Hk
  isplitr [HO]
  · isplitl [R0]; · iexact R0
    isplitl [R1]; · iexact R1
    isplitl [R2] <;> iassumption
  iexact HO

end Cert.Gather

end
-- ==== Proof.Lanes.lean ====
/-
The phases, chunk by chunk: what each takes and what it leaves.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : Dv → Vol F) (K : GSem nD τ sig → ℕ)

/-! ## The result -/

/-- The result: a device's own half is its column's sum, the other half the sum of the column across. -/
def Res (c : Dv) : FVec F S512x512 .f32 := fun i =>
  T G (if (i 0).val / 256 = c.val / 16 then c else px c)
    (fun | 0 => ⟨(i 0).val % 256 / 64, by show _ < 4; omega⟩
         | 1 => ⟨(i 0).val % 64, by show _ < 64; omega⟩
         | 2 => ⟨(i 1).val, (i 1).isLt⟩)

theorem res_rows (c : Dv) (j : Fin 8) (k : Fin 4) (hk : j.val % 4 = k.val) (c' : Dv)
    (hc : (if j.val / 4 = c.val / 16 then c else px c) = c') :
    cut (rd s0 k (T G c')) = (ob.access (rowRect j)).read (Elt F) (Res G c) := by
  subst hc
  have h8 := j.isLt
  funext y
  have h0 : (y 0).val < 64 := (y 0).isLt
  have h1 : (y 1).val < 512 := (y 1).isLt
  refine (shapeCast_dropUnit_apply _ (rd s0 k (T G (if j.val / 4 = c.val / 16 then c else px c))) shapeCasts_S1x64x512_S64x512 y).trans ?_
  show T G _ _ = Res G c _
  unfold Res
  have e0 : (((ob.access (rowRect j)).emb y) 0).val = 64 * j.val + (y 0).val := by
    show 64 * j.val + 1 * (y 0).val = _; omega
  have e1 : (((ob.access (rowRect j)).emb y) 1).val = (y 1).val := by
    show 0 + 1 * (y 1).val = _; omega
  have eq : (64 * j.val + (y 0).val) / 256 = j.val / 4 := by omega
  simp only [e0, e1, eq]
  congr 1
  funext a
  apply Fin.ext
  fin_cases a
  · show k.val + 1 * 0 = (64 * j.val + (y 0).val) % 256 / 64; omega
  · show 0 + 1 * (y 0).val = (64 * j.val + (y 0).val) % 64; omega
  · show 0 + 1 * (y 1).val = (y 1).val; omega

/-! ## A middle device -/

section Inner
variable (c : Dv) (hc : inner c = true) (k : Fin 4)

def PI1 : sProp 𝕄 := iprop((WB c 1 k ∗ CR c 1 k) ∗ ch c stg k fullShare (G c) ∗ (∃ f, ch c s0 k fullShare f) ∗ SB c 2 (mi c) 3 k s2)
def RI1 : sProp 𝕄 := iprop(WD c 1 k ∗ ch c stg k fullShare (G c) ∗ ch c s1 k fullShare (G (pa c)) ∗ CR c 2 k)

theorem inner1_rule (m' : Dv) (hm : m' = mi c) (O : CellTallies nD τ sig Unit) (hO : Above 2 O) (Q : PUnit → sProp 𝕄) :
    iprop(ctx G K ∗ PI1 G c k ∗ ow c (tallyAt (cell (mi c) 3 k) () N + O))
      ⊢ iprop(((RI1 G c k ∗ ow c O) -∗ Q ⟨⟩)
        -∗ Wp c (inner1 stg s0 s1 s2 cc0_scratch6 cc0_scratch7 cc0_scratch8 m' k) Q) := by
  unfold PI1 RI1
  simp only [inner1, acc, Wp_bind]
  iintro ⟨#HI, ⟨HW, Hg, ⟨%f0, H0⟩, HS⟩, HO⟩ Hk
  iapply (wait_step G K c 1 k stg s1 rfl ((Above.cell (c := mi c) (j := 3) (k := k) (a := N) (by decide)).add hO) (le_refl _)) $$ [HW HO]
  · isplitr; · iexact HI
    isplitl [HW] <;> iassumption
  iintro ⟨HD, H1, HO⟩
  unfold pay
  iapply ld_step $$ Hg
  iintro Hg
  iapply ld_step $$ H1
  iintro H1
  iapply ld_step $$ H0
  iintro H0
  iapply (sto_step c s0 k f0 (A G c) _ (by rw [addc_eq s0 k]; rfl)) $$ H0
  iintro H0
  iapply (snd_step G K c (mi c) m' hm 2 3 k s0 s2 fullShare rfl (A G c) (by unfold pay; exact BI.Entails.refl _)
    (fun fd => (Entails.of_eq (ch_copy (b := s0) (b' := s2) (g := A G c) rfl)).trans (Entails.of_eq (by unfold pay; dsimp only; rw [mi_mi]))) O) $$ [H0 HS HO]
  · isplitr; · iexact HI
    isplitr [HO]
    · isplitl [H0]; · iexact H0
      iexact HS
    iexact HO
  iintro ⟨HC, HO⟩
  iapply Hk
  isplitr [HO]
  · isplitl [HD]; · iexact HD
    isplitl [Hg]; · iexact Hg
    isplitl [H1] <;> iassumption
  iexact HO

def PI2 : sProp 𝕄 := iprop((WB c 2 k ∗ CR c 2 k) ∗ (WB c 3 k ∗ CR c 3 k) ∗ SB c 4 (pa c) 5 k s3 ∗ SB c 6 (px c) 7 k s4)
def RI2 : sProp 𝕄 := iprop(WD c 2 k ∗ WD c 3 k ∗ ch c s2 k fullShare (A G (mi c)) ∗ CR c 4 k ∗ CR c 6 k)

include hc in
theorem inner2_rule (a' x' : Dv) (ha : a' = pa c) (hx : x' = px c) (O : CellTallies nD τ sig Unit) (hO : Above 3 O)
    (Q : PUnit → sProp 𝕄) :
    iprop(ctx G K ∗ PI2 c k ∗ ow c ((tallyAt (cell (pa c) 5 k) () N + tallyAt (cell (px c) 7 k) () N) + O))
      ⊢ iprop(((RI2 G c k ∗ ow c O) -∗ Q ⟨⟩)
        -∗ Wp c (inner2 s0 s2 s3 s4 cc0_scratch7 cc0_scratch8 cc0_scratch9 cc0_scratch10 cc0_scratch11 cc0_scratch12 a' x' k) Q) := by
  have h7 : Above 3 (tallyAt (cell (px c) 7 k) () N) := Above.cell (by decide)
  have h5 : Above 3 (tallyAt (cell (pa c) 5 k) () N) := Above.cell (by decide)
  rw [add_assoc]
  unfold PI2 RI2
  simp only [inner2, acc, Wp_bind]
  iintro ⟨#HI, ⟨HW2, HW3, HS4, HS6⟩, HO⟩ Hk
  iapply (wait_step G K c 2 k s2 s0 rfl (h5.add (h7.add hO)) (by decide)) $$ [HW2 HO]
  · isplitr; · iexact HI
    isplitl [HW2] <;> iassumption
  iintro ⟨HD2, H0, HO⟩
  iapply (wait_step G K c 3 k s0 s2 rfl (h5.add (h7.add hO)) (by decide)) $$ [HW3 HO]
  · isplitr; · iexact HI
    isplitl [HW3] <;> iassumption
  iintro ⟨HD3, H2, HO⟩
  unfold pay
  iapply ld_step $$ H0
  iintro H0
  iapply ld_step $$ H2
  iintro H2
  iapply ld_step $$ H0
  iintro H0
  iapply (sto_step c s0 k (A G c) (B G c) _ (by rw [addc_eq s0 k]; rfl)) $$ H0
  iintro H0
  ihave H0 := (pointsTo_share (PosShare.mem_left_op_right fullShare)).1 $$ H0
  icases H0 with ⟨HL, HR⟩
  iapply (snd_step G K c (pa c) a' ha 4 5 k s0 s3 fullShare.left rfl (B G c) (by unfold pay; exact BI.Entails.refl _)
    (fun fd => (Entails.of_eq (ch_copy (b := s0) (b' := s3) (g := B G c) rfl)).trans (Entails.of_eq (by unfold pay; dsimp only; rw [pa_pa]))) _) $$ [HL HS4 HO]
  · isplitr; · iexact HI
    isplitr [HO]
    · isplitl [HL]; · iexact HL
      iexact HS4
    iexact HO
  iintro ⟨HC4, HO⟩
  iapply (snd_step G K c (px c) x' hx 6 7 k s0 s4 fullShare.right rfl (B G c) (by unfold pay; dsimp only; rw [if_pos hc])
    (fun fd => (Entails.of_eq (ch_copy (b := s0) (b' := s4) (g := B G c) rfl)).trans (Entails.of_eq (by unfold pay; dsimp only; rw [px_px, T_inner G hc]))) O) $$ [HR HS6 HO]
  · isplitr; · iexact HI
    isplitr [HO]
    · isplitl [HR]; · iexact HR
      iexact HS6
    iexact HO
  iintro ⟨HC6, HO⟩
  iapply Hk
  isplitr [HO]
  · isplitl [HD2]; · iexact HD2
    isplitl [HD3]; · iexact HD3
    isplitl [H2]; · iexact H2
    isplitl [HC4] <;> iassumption
  iexact HO

end Inner

/-! ## The result's rows -/

section Last
variable (c : Dv) (k : Fin 4) (own : Mr) (q : PosShare TreeShare) (g : own.view.ty.Contents (Elt F))

def PL (f : FVec F S512x512 .f32) : sProp 𝕄 :=
  iprop((WB c 6 k ∗ CR c 6 k) ∗ (WB c 7 k ∗ CR c 7 k) ∗ (orow c (k.castAdd 4) f ∗ orow c (k.natAdd 4) f))
def RL : sProp 𝕄 :=
  iprop(WD c 6 k ∗ WD c 7 k ∗ ch c own k q g ∗ ch c s4 k fullShare (T G (px c))
    ∗ (orow c (k.castAdd 4) (Res G c) ∗ orow c (k.natAdd 4) (Res G c)))

/-- Where the rows of a device's own half go, and of the other. -/
theorem offs (hx : c.val / 16 < 2) (off₁ off₂ : Fin 2 → Nat) (h₁ : off₁ = ![256 * (c.val / 16) + 64 * k.val, 0])
    (h₂ : off₂ = ![(64 * k.val + 256) - 256 * (c.val / 16), 0]) :
    ∃ j₁ j₂ : Fin 8, off₁ = ![64 * j₁.val, 0] ∧ off₂ = ![64 * j₂.val, 0] ∧ j₁.val % 4 = k.val ∧ j₂.val % 4 = k.val
      ∧ j₁.val / 4 = c.val / 16 ∧ j₂.val / 4 ≠ c.val / 16
      ∧ ((j₁ = k.castAdd 4 ∧ j₂ = k.natAdd 4) ∨ (j₁ = k.natAdd 4 ∧ j₂ = k.castAdd 4)) := by
  have hk := k.isLt
  have hc2 : c.val / 16 = 0 ∨ c.val / 16 = 1 := by omega
  have v1 : (k.castAdd 4 : Fin 8).val = k.val := rfl
  have v2 : (k.natAdd 4 : Fin 8).val = 4 + k.val := rfl
  rcases hc2 with e | e
  · refine ⟨k.castAdd 4, k.natAdd 4, ?_, ?_, ?_, ?_, ?_, ?_, .inl ⟨rfl, rfl⟩⟩
    · rw [h₁, v1, e]; congr 1; try omega
    · rw [h₂, v2, e]; congr 1; try omega
    all_goals omega
  · refine ⟨k.natAdd 4, k.castAdd 4, ?_, ?_, ?_, ?_, ?_, ?_, .inr ⟨rfl, rfl⟩⟩
    · rw [h₁, v2, e]; congr 1; try omega
    · rw [h₂, v1, e]; congr 1; try omega
    all_goals omega

theorem rows_order (j₁ j₂ : Fin 8)
    (h : (j₁ = k.castAdd 4 ∧ j₂ = k.natAdd 4) ∨ (j₁ = k.natAdd 4 ∧ j₂ = k.castAdd 4)) (f : FVec F S512x512 .f32) :
    (iprop(orow c (k.castAdd 4) f ∗ orow c (k.natAdd 4) f) : sProp 𝕄) = iprop(orow c j₁ f ∗ orow c j₂ f) := by
  rcases h with ⟨rfl, rfl⟩ | ⟨rfl, rfl⟩
  · rfl
  · exact BI.equiv_iff.mp ⟨BI.sep_comm, BI.sep_comm⟩

theorem last_rule (hN : (ck own k).view.dmaCredit = N) (hg : rd own k g = rd s0 k (T G c)) (hp : pay G c 6 k = ch c own k q g)
    (f : FVec F S512x512 .f32) (off₁ off₂ : Fin 2 → Nat)
    (h₁ : ∀ a, off₁ a + S64x512.size a ≤ S512x512.size a) (h₂ : ∀ a, off₂ a + S64x512.size a ≤ S512x512.size a)
    (ho₁ : off₁ = ![256 * (c.val / 16) + 64 * k.val, 0])
    (ho₂ : off₂ = ![(64 * k.val + 256) - 256 * (c.val / 16), 0])
    (O : CellTallies nD τ sig Unit) (hO : Above 5 O) (Q : PUnit → sProp 𝕄) :
    iprop(ctx G K ∗ PL c k f ∗ ow c O)
      ⊢ iprop(((RL G c k own q g ∗ ow c O) -∗ Q ⟨⟩)
        -∗ Wp c (last ob s4 cc0_scratch11 cc0_scratch12 own off₁ off₂ h₁ h₂ k) Q) := by
  have hcl : c.val < 32 := c.isLt
  obtain ⟨j₁, j₂, e₁, e₂, m₁, m₂, d₁, d₂, hj⟩ := offs c k (by omega) off₁ off₂ ho₁ ho₂
  unfold PL RL
  rw [rows_order c k j₁ j₂ hj, rows_order c k j₁ j₂ hj]
  unfold last
  rw [Wp_bind]
  iintro ⟨#HI, ⟨HW6, HW7, HR1, HR2⟩, HO⟩ Hk
  iapply (wait_step G K c 6 k s4 own hN hO (by decide)) $$ [HW6 HO]
  · isplitr; · iexact HI
    isplitl [HW6] <;> iassumption
  iintro ⟨HD6, Hown, HO⟩
  rw [Wp_bind]
  iapply (wait_step G K c 7 k own s4 rfl hO (by decide)) $$ [HW7 HO]
  · isplitr; · iexact HI
    isplitl [HW7] <;> iassumption
  iintro ⟨HD7, H4, HO⟩
  ihave Hown := (Entails.of_eq hp) $$ Hown
  ihave H4 := (Entails.of_eq (show pay G c 7 k = ch c s4 k fullShare (T G (px c)) from rfl)) $$ H4
  rw [Wp_bind]
  iapply ld_step $$ Hown
  iintro Hown
  rw [Wp_bind]
  iapply (outp_step c j₁ off₁ h₁ e₁ f (Res G c) _ (by
    rw [hg]; exact res_rows G c j₁ k m₁ c (if_pos d₁))) $$ HR1
  iintro HR1
  rw [Wp_bind]
  iapply ld_step $$ H4
  iintro H4
  iapply (outp_step c j₂ off₂ h₂ e₂ f (Res G c) _ (res_rows G c j₂ k m₂ (px c) (if_neg d₂))) $$ HR2
  iintro HR2
  iapply Hk
  isplitr [HO]
  · isplitl [HD6]; · iexact HD6
    isplitl [HD7]; · iexact HD7
    isplitl [Hown]; · iexact Hown
    isplitl [H4]; · iexact H4
    isplitl [HR1] <;> iassumption
  iexact HO

end Last

/-! ## An end device -/

section Edge
variable (c : Dv) (hc : inner c = false) (k : Fin 4)

def PE1 : sProp 𝕄 := iprop(ch c stg k fullShare (G c) ∗ SB c 0 (pa c) 1 k s1)
def RE1 : sProp 𝕄 := CR c 0 k
def PE2 : sProp 𝕄 := iprop((WB c 5 k ∗ CR c 5 k) ∗ SB c 6 (px c) 7 k s4)
def RE2 : sProp 𝕄 := iprop(WD c 5 k ∗ CR c 6 k)

theorem edge1_rule (a' : Dv) (ha : a' = pa c) (O : CellTallies nD τ sig Unit) (Q : PUnit → sProp 𝕄) :
    iprop(ctx G K ∗ PE1 G c k ∗ ow c (tallyAt (cell (pa c) 1 k) () N + O))
      ⊢ iprop(((RE1 c k ∗ ow c O) -∗ Q ⟨⟩) -∗ Wp c (edge1 stg s1 cc0_scratch5 cc0_scratch6 a' k) Q) := by
  unfold PE1 RE1
  exact snd_step G K c (pa c) a' ha 0 1 k stg s1 fullShare rfl (G c) (by unfold pay; exact BI.Entails.refl _)
    (fun fd => (Entails.of_eq (ch_copy (b := stg) (b' := s1) (g := G c) rfl)).trans (Entails.of_eq (by unfold pay; dsimp only; rw [pa_pa]))) O Q

include hc in
theorem edge2_rule (x' : Dv) (hx : x' = px c) (O : CellTallies nD τ sig Unit) (hO : Above 4 O) (Q : PUnit → sProp 𝕄) :
    iprop(ctx G K ∗ PE2 c k ∗ ow c (tallyAt (cell (px c) 7 k) () N + O))
      ⊢ iprop(((RE2 c k ∗ ow c O) -∗ Q ⟨⟩)
        -∗ Wp c (edge2 s0 s3 s4 cc0_scratch10 cc0_scratch11 cc0_scratch12 x' k) Q) := by
  have h7 : Above 4 (tallyAt (cell (px c) 7 k) () N) := Above.cell (by decide)
  unfold PE2 RE2
  simp only [edge2, Wp_bind]
  iintro ⟨#HI, ⟨HW5, HS6⟩, HO⟩ Hk
  iapply (wait_step G K c 5 k s0 s3 rfl (h7.add hO) (by decide)) $$ [HW5 HO]
  · isplitr; · iexact HI
    isplitl [HW5] <;> iassumption
  iintro ⟨HD5, H3, HO⟩
  unfold pay
  iapply (snd_step G K c (px c) x' hx 6 7 k s3 s4 fullShare rfl (B G (pa c))
    (by unfold pay; dsimp only; rw [if_neg (by simp [hc]), T_edge G hc])
    (fun fd => (Entails.of_eq (ch_copy (b := s3) (b' := s4) (g := B G (pa c)) rfl)).trans (Entails.of_eq (by unfold pay; dsimp only; rw [px_px, T_edge G hc]))) O) $$ [H3 HS6 HO]
  · isplitr; · iexact HI
    isplitr [HO]
    · isplitl [H3]; · iexact H3
      iexact HS6
    iexact HO
  iintro ⟨HC6, HO⟩
  iapply Hk
  isplitr [HO]
  · isplitl [HD5] <;> iassumption
  iexact HO

end Edge

end Cert.Gather

end
-- ==== Proof.Runs.lean ====
/-
Everything after the barrier, on a middle device and on an end device.
-/
module

public import proofs.«01_k».proof.Proof.Lanes

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : Dv → Vol F) (K : GSem nD τ sig → ℕ)

theorem all4_sep (P Q : Fin 4 → sProp 𝕄) : all4 (fun k => iprop(P k ∗ Q k)) = iprop(all4 P ∗ all4 Q) := by
  rw [← all4_eq, ← all4_eq, ← all4_eq, bigSep_sep']

theorem all4_mono {P Q : Fin 4 → sProp 𝕄} (h : ∀ k, P k ⊢ Q k) : all4 P ⊢ all4 Q := by
  rw [← all4_eq, ← all4_eq]; exact bigSep_mono fun k _ => h k

/-- What the four chunks' steps discharge, before the rest. -/
def sum4 (t : Fin 4 → CellTallies nD τ sig Unit) (O : CellTallies nD τ sig Unit) : CellTallies nD τ sig Unit :=
  t 0 + (t 1 + (t 2 + (t 3 + O)))

theorem sum4_zero (O : CellTallies nD τ sig Unit) : sum4 (fun _ => 0) O = O := by simp [sum4]

theorem Above.sum4 {n : ℕ} {t : Fin 4 → CellTallies nD τ sig Unit} {O : CellTallies nD τ sig Unit}
    (h : ∀ k, Above n (t k)) (hO : Above n O) : Above n (sum4 t O) :=
  (h 0).add ((h 1).add ((h 2).add ((h 3).add hO)))

abbrev tI1 (c : Dv) (k : Fin 4) : CellTallies nD τ sig Unit := tallyAt (cell (mi c) 3 k) () N
abbrev tI2 (c : Dv) (k : Fin 4) : CellTallies nD τ sig Unit := tallyAt (cell (pa c) 5 k) () N + tallyAt (cell (px c) 7 k) () N
abbrev tE1 (c : Dv) (k : Fin 4) : CellTallies nD τ sig Unit := tallyAt (cell (pa c) 1 k) () N
abbrev tE2 (c : Dv) (k : Fin 4) : CellTallies nD τ sig Unit := tallyAt (cell (px c) 7 k) () N

/-- The rest of the owed, on a middle and on an end device. -/
def restI (c : Dv) : CellTallies nD τ sig Unit := sum4 (tI1 c) (sum4 (tI2 c) 0)
def restE (c : Dv) : CellTallies nD τ sig Unit := sum4 (tE1 c) (sum4 (tE2 c) 0)

theorem above_tI2 (c : Dv) (n : ℕ) (hn : n < 4) (k : Fin 4) : Above n (tI2 c k) :=
  (Above.cell (lt_of_lt_of_le hn (by decide))).add (Above.cell (lt_of_lt_of_le hn (by decide)))
theorem above_tI1 (c : Dv) (n : ℕ) (hn : n < 3) (k : Fin 4) : Above n (tI1 c k) := Above.cell (lt_of_lt_of_le hn (by decide))
theorem above_tE1 (c : Dv) (n : ℕ) (hn : n < 2) (k : Fin 4) : Above n (tE1 c k) := Above.cell (lt_of_lt_of_le hn (by decide))
theorem above_tE2 (c : Dv) (n : ℕ) (hn : n < 5) (k : Fin 4) : Above n (tE2 c k) := Above.cell (lt_of_lt_of_le hn (by decide))
theorem above_restI (c : Dv) : Above 1 (restI c) :=
  Above.sum4 (above_tI1 c 1 (by decide)) (Above.sum4 (above_tI2 c 1 (by decide)) (Above.zero _))
theorem above_restE (c : Dv) : Above 1 (restE c) :=
  Above.sum4 (above_tE1 c 1 (by decide)) (Above.sum4 (above_tE2 c 1 (by decide)) (Above.zero _))

/-- Waiting on the four semaphores of a family in turn, owing nothing. -/
theorem wait_four (c : Dv) (j : Fin 8) (src dst : Mr) (hN : ∀ k, (ck dst k).view.dmaCredit = N) (Q : PUnit → sProp 𝕄) :
    iprop(ctx G K ∗ (all4 (fun k => WB c j k) ∗ all4 (fun k => CR c j k)) ∗ ow c 0)
      ⊢ iprop((((all4 (fun k => WD c j k) ∗ all4 (fun k => pay G c j k)) ∗ ow c 0) -∗ Q ⟨⟩)
        -∗ Wp c (four fun k => wt (fam j) src dst k) Q) := by
  have r := four_rule G K c (fun k => wt (fam j) src dst k)
    (fun k => iprop(WB c j k ∗ CR c j k)) (fun k => iprop(WD c j k ∗ pay G c j k)) (flv j) (fun _ => 0) 0
    (fun _ => Above.zero _) (Above.zero _)
    (fun k O hO Q => by
      rw [zero_add]
      iintro H Hk
      iapply (wait_step G K c j k src dst (hN k) hO (le_refl _) Q) $$ H
      iintro ⟨H1, H2, H3⟩
      iapply Hk
      isplitr [H3]
      · isplitl [H1] <;> iassumption
      iexact H3) Q
  rw [all4_sep, all4_sep] at r
  simp only [zero_add] at r
  exact r

/-! The phases' bundles over the four chunks. -/

section Bundles
variable (c : Dv)

theorem RI1_all : all4 (RI1 G c) = iprop(all4 (fun k => WD c 1 k) ∗ all4 (fun k => ch c stg k fullShare (G c))
    ∗ all4 (fun k => ch c s1 k fullShare (G (pa c))) ∗ all4 (fun k => CR c 2 k)) := by
  rw [← all4_sep, ← all4_sep, ← all4_sep]; rfl
theorem PI2_all : all4 (PI2 (F := F) c) = iprop((all4 (fun k => WB c 2 k) ∗ all4 (fun k => CR c 2 k))
    ∗ (all4 (fun k => WB c 3 k) ∗ all4 (fun k => CR c 3 k))
    ∗ all4 (fun k => SB c 4 (pa c) 5 k s3) ∗ all4 (fun k => SB c 6 (px c) 7 k s4)) := by
  rw [← all4_sep, ← all4_sep, ← all4_sep, ← all4_sep, ← all4_sep]; rfl
theorem RI2_all : all4 (RI2 G c) = iprop(all4 (fun k => WD c 2 k) ∗ all4 (fun k => WD c 3 k)
    ∗ all4 (fun k => ch c s2 k fullShare (A G (mi c))) ∗ all4 (fun k => CR c 4 k) ∗ all4 (fun k => CR c 6 k)) := by
  rw [← all4_sep, ← all4_sep, ← all4_sep, ← all4_sep]; rfl
theorem PL_all (f : FVec F S512x512 .f32) : all4 (fun k => PL c k f) = iprop((all4 (fun k => WB c 6 k) ∗ all4 (fun k => CR c 6 k))
    ∗ (all4 (fun k => WB c 7 k) ∗ all4 (fun k => CR c 7 k))
    ∗ all4 (fun k => iprop(orow c (k.castAdd 4) f ∗ orow c (k.natAdd 4) f))) := by
  rw [← all4_sep, ← all4_sep, ← all4_sep, ← all4_sep]; rfl
theorem RL_all (own : Mr) (q : PosShare TreeShare) (g : own.view.ty.Contents (Elt F)) :
    all4 (fun k => RL G c k own q g) = iprop(all4 (fun k => WD c 6 k) ∗ all4 (fun k => WD c 7 k)
      ∗ all4 (fun k => ch c own k q g) ∗ all4 (fun k => ch c s4 k fullShare (T G (px c)))
      ∗ all4 (fun k => iprop(orow c (k.castAdd 4) (Res G c) ∗ orow c (k.natAdd 4) (Res G c)))) := by
  rw [← all4_sep, ← all4_sep, ← all4_sep, ← all4_sep]; rfl
theorem RE2_all : all4 (RE2 (F := F) c) = iprop(all4 (fun k => WD c 5 k) ∗ all4 (fun k => CR c 6 k)) := by
  rw [← all4_sep]; rfl

end Bundles

/-! ## A middle device -/

section Inner
variable (c : Dv) (hc : inner c = true)

/-- What it starts with, after the barrier. -/
def preI (f : FVec F S512x512 .f32) : sProp 𝕄 :=
  iprop(all4 (PI1 G c) ∗ all4 (fun k => WB c 2 k) ∗ all4 (fun k => WB c 3 k) ∗ all4 (fun k => CR c 3 k)
    ∗ all4 (fun k => SB c 4 (pa c) 5 k s3) ∗ all4 (fun k => SB c 6 (px c) 7 k s4)
    ∗ all4 (fun k => WB c 6 k) ∗ all4 (fun k => WB c 7 k) ∗ all4 (fun k => CR c 7 k)
    ∗ all4 (fun k => iprop(orow c (k.castAdd 4) f ∗ orow c (k.natAdd 4) f)) ∗ all4 (fun k => WB c 4 k))

/-- What it ends with. -/
def postI : sProp 𝕄 :=
  iprop((all4 (fun k => WD c 1 k) ∗ all4 (fun k => WD c 2 k) ∗ all4 (fun k => WD c 3 k) ∗ all4 (fun k => WD c 4 k)
      ∗ all4 (fun k => WD c 6 k) ∗ all4 (fun k => WD c 7 k))
    ∗ all4 (fun k => ch c stg k fullShare (G c))
    ∗ (all4 (fun k => ch c s0 k fullShare.left (B G c)) ∗ all4 (fun k => ch c s0 k fullShare.right (B G c)))
    ∗ all4 (fun k => ch c s1 k fullShare (G (pa c))) ∗ all4 (fun k => ch c s2 k fullShare (A G (mi c)))
    ∗ all4 (fun k => ch c s4 k fullShare (T G (px c)))
    ∗ all4 (fun k => iprop(orow c (k.castAdd 4) (Res G c) ∗ orow c (k.natAdd 4) (Res G c))))

include hc in
theorem inner_run (f : FVec F S512x512 .f32) (mid pa' px' : Fin 4 → Dv) (hm : mid = fun _ => mi c) (ha : pa' = fun _ => pa c)
    (hx : px' = fun _ => px c) (off₁ off₂ : Fin 4 → Fin 2 → Nat)
    (h₁ : ∀ k a, off₁ k a + S64x512.size a ≤ S512x512.size a) (h₂ : ∀ k a, off₂ k a + S64x512.size a ≤ S512x512.size a)
    (ho₁ : ∀ k, off₁ k = ![256 * (c.val / 16) + 64 * k.val, 0])
    (ho₂ : ∀ k, off₂ k = ![(64 * k.val + 256) - 256 * (c.val / 16), 0]) (Q : PUnit → sProp 𝕄) :
    iprop(ctx G K ∗ preI G c f ∗ ow c (restI c))
      ⊢ iprop(((postI G c ∗ ow c 0) -∗ Q ⟨⟩)
        -∗ Wp c (innerProg stg ob s0 s1 s2 s3 s4 cc0_scratch6 cc0_scratch7 cc0_scratch8 cc0_scratch9 cc0_scratch10 cc0_scratch11
            cc0_scratch12 mid pa' px' off₁ off₂ h₁ h₂) Q) := by
  have r1 := four_rule G K c (fun k => inner1 stg s0 s1 s2 cc0_scratch6 cc0_scratch7 cc0_scratch8 (mid k) k)
    (PI1 G c) (RI1 G c) 2 (tI1 c) (sum4 (tI2 c) 0) (above_tI1 c 2 (by decide)) (Above.sum4 (above_tI2 c 2 (by decide)) (Above.zero _))
    (fun k O hO Q => inner1_rule G K c k (mid k) (congrFun hm k) O hO Q)
  have r2 := four_rule G K c (fun k => inner2 s0 s2 s3 s4 cc0_scratch7 cc0_scratch8 cc0_scratch9 cc0_scratch10 cc0_scratch11 cc0_scratch12 (pa' k) (px' k) k)
    (PI2 c) (RI2 G c) 3 (tI2 c) 0 (above_tI2 c 3 (by decide)) (Above.zero _)
    (fun k O hO Q => inner2_rule G K c hc k (pa' k) (px' k) (congrFun ha k) (congrFun hx k) O hO Q)
  have r3 := four_rule G K c (fun k => last ob s4 cc0_scratch11 cc0_scratch12 s0 (off₁ k) (off₂ k) (h₁ k) (h₂ k) k)
    (fun k => PL c k f) (fun k => RL G c k s0 fullShare.right (B G c)) 5 (fun _ => 0) 0 (fun _ => Above.zero _) (Above.zero _)
    (fun k O hO Q => by
      rw [zero_add]
      exact last_rule G K c k s0 fullShare.right (B G c) rfl (by rw [T_inner G hc]) (if_pos hc) f (off₁ k) (off₂ k) (h₁ k) (h₂ k) (ho₁ k) (ho₂ k) O hO Q)
  have r4 := wait_four G K c 4 s3 s0 (fun _ => rfl)
  have e3 := sum4_zero (0 : CellTallies nD τ sig Unit)
  unfold sum4 at e3
  unfold restI preI postI
  unfold innerProg
  rw [Wp_bind]
  iintro ⟨#HI, ⟨H1, W2, W3, C3, S4, S6, W6, W7, C7, HR, W4⟩, HO⟩ Hk
  iapply (r1 _) $$ [H1 HO]
  · isplitr; · iexact HI
    isplitl [H1]; · iexact H1
    iexact HO
  iintro ⟨R1, HO⟩
  ihave R1 := (Entails.of_eq (RI1_all G c)) $$ R1
  rw [Wp_bind]
  icases R1 with ⟨D1, Hg, Hs1, C2⟩
  iapply (r2 _) $$ [W2 C2 W3 C3 S4 S6 HO]
  · isplitr; · iexact HI
    isplitr [HO]
    · iapply (Entails.of_eq (PI2_all c).symm)
      isplitl [W2 C2]
      · isplitl [W2] <;> iassumption
      isplitl [W3 C3]
      · isplitl [W3] <;> iassumption
      isplitl [S4] <;> iassumption
    iexact HO
  iintro ⟨R2, HO⟩
  ihave R2 := (Entails.of_eq (RI2_all G c)) $$ R2
  rw [Wp_bind]
  icases R2 with ⟨D2, D3, Hs2, C4, C6⟩
  iapply (r3 _) $$ [W6 C6 W7 C7 HR HO]
  · isplitr; · iexact HI
    isplitr [HO]
    · iapply (Entails.of_eq (PL_all c f).symm)
      isplitl [W6 C6]
      · isplitl [W6] <;> iassumption
      isplitl [W7 C7]
      · isplitl [W7] <;> iassumption
      iexact HR
    rw [e3]; iexact HO
  iintro ⟨R3, HO⟩
  ihave R3 := (Entails.of_eq (RL_all G c _ _ _)) $$ R3
  icases R3 with ⟨D6, D7, Hs0, Hs4, HR⟩
  iapply (r4 _) $$ [W4 C4 HO]
  · isplitr; · iexact HI
    isplitr [HO]
    · isplitl [W4] <;> iassumption
    iexact HO
  iintro ⟨⟨D4, Hl⟩, HO⟩
  iapply Hk
  isplitr [HO]
  · isplitl [D1 D2 D3 D4 D6 D7]
    · isplitl [D1]; · iexact D1
      isplitl [D2]; · iexact D2
      isplitl [D3]; · iexact D3
      isplitl [D4]; · iexact D4
      isplitl [D6] <;> iassumption
    isplitl [Hg]; · iexact Hg
    isplitl [Hl Hs0]
    · isplitl [Hl]; · iexact Hl
      iexact Hs0
    isplitl [Hs1]; · iexact Hs1
    isplitl [Hs2]; · iexact Hs2
    isplitl [Hs4]; · iexact Hs4
    iexact HR
  iexact HO

end Inner

/-! ## An end device -/

section Edge
variable (c : Dv) (hc : inner c = false)

/-- What it starts with, after the barrier. -/
def preE (f : FVec F S512x512 .f32) : sProp 𝕄 :=
  iprop(all4 (PE1 G c) ∗ all4 (PE2 c)
    ∗ all4 (fun k => WB c 6 k) ∗ all4 (fun k => WB c 7 k) ∗ all4 (fun k => CR c 7 k)
    ∗ all4 (fun k => iprop(orow c (k.castAdd 4) f ∗ orow c (k.natAdd 4) f)) ∗ all4 (fun k => WB c 0 k))

/-- What it ends with. -/
def postE : sProp 𝕄 :=
  iprop((all4 (fun k => WD c 0 k) ∗ all4 (fun k => WD c 5 k) ∗ all4 (fun k => WD c 6 k) ∗ all4 (fun k => WD c 7 k))
    ∗ all4 (fun k => ch c stg k fullShare (G c))
    ∗ all4 (fun k => ch c s3 k fullShare (T G c))
    ∗ all4 (fun k => ch c s4 k fullShare (T G (px c)))
    ∗ all4 (fun k => iprop(orow c (k.castAdd 4) (Res G c) ∗ orow c (k.natAdd 4) (Res G c))))

include hc in
theorem edge_run (f : FVec F S512x512 .f32) (pa' px' : Fin 4 → Dv) (ha : pa' = fun _ => pa c)
    (hx : px' = fun _ => px c) (off₁ off₂ : Fin 4 → Fin 2 → Nat)
    (h₁ : ∀ k a, off₁ k a + S64x512.size a ≤ S512x512.size a) (h₂ : ∀ k a, off₂ k a + S64x512.size a ≤ S512x512.size a)
    (ho₁ : ∀ k, off₁ k = ![256 * (c.val / 16) + 64 * k.val, 0])
    (ho₂ : ∀ k, off₂ k = ![(64 * k.val + 256) - 256 * (c.val / 16), 0]) (Q : PUnit → sProp 𝕄) :
    iprop(ctx G K ∗ preE G c f ∗ ow c (restE c))
      ⊢ iprop(((postE G c ∗ ow c 0) -∗ Q ⟨⟩)
        -∗ Wp c (edgeProg stg ob s0 s1 s3 s4 cc0_scratch5 cc0_scratch6 cc0_scratch10 cc0_scratch11
            cc0_scratch12 pa' px' off₁ off₂ h₁ h₂) Q) := by
  have r1 := four_rule G K c (fun k => edge1 stg s1 cc0_scratch5 cc0_scratch6 (pa' k) k)
    (PE1 G c) (RE1 c) 1 (tE1 c) (sum4 (tE2 c) 0) (above_tE1 c 1 (by decide)) (Above.sum4 (above_tE2 c 1 (by decide)) (Above.zero _))
    (fun k O hO Q => edge1_rule G K c k (pa' k) (congrFun ha k) O Q)
  have r2 := four_rule G K c (fun k => edge2 s0 s3 s4 cc0_scratch10 cc0_scratch11 cc0_scratch12 (px' k) k)
    (PE2 c) (RE2 c) 4 (tE2 c) 0 (above_tE2 c 4 (by decide)) (Above.zero _)
    (fun k O hO Q => edge2_rule G K c hc k (px' k) (congrFun hx k) O hO Q)
  have r3 := four_rule G K c (fun k => last ob s4 cc0_scratch11 cc0_scratch12 s3 (off₁ k) (off₂ k) (h₁ k) (h₂ k) k)
    (fun k => PL c k f) (fun k => RL G c k s3 fullShare (T G c)) 5 (fun _ => 0) 0 (fun _ => Above.zero _) (Above.zero _)
    (fun k O hO Q => by
      rw [zero_add]
      exact last_rule G K c k s3 fullShare (T G c) rfl rfl (if_neg (by simp [hc])) f (off₁ k) (off₂ k) (h₁ k) (h₂ k) (ho₁ k) (ho₂ k) O hO Q)
  have r4 := wait_four G K c 0 s1 stg (fun _ => rfl)
  have e3 := sum4_zero (0 : CellTallies nD τ sig Unit)
  unfold sum4 at e3
  unfold restE preE postE
  unfold edgeProg
  rw [Wp_bind]
  iintro ⟨#HI, ⟨H1, H2, W6, W7, C7, HR, W0⟩, HO⟩ Hk
  iapply (r1 _) $$ [H1 HO]
  · isplitr; · iexact HI
    isplitl [H1]; · iexact H1
    iexact HO
  iintro ⟨C0, HO⟩
  rw [Wp_bind]
  iapply (r2 _) $$ [H2 HO]
  · isplitr; · iexact HI
    isplitl [H2]; · iexact H2
    iexact HO
  iintro ⟨R2, HO⟩
  ihave R2 := (Entails.of_eq (RE2_all c)) $$ R2
  rw [Wp_bind]
  icases R2 with ⟨D5, C6⟩
  iapply (r3 _) $$ [W6 C6 W7 C7 HR HO]
  · isplitr; · iexact HI
    isplitr [HO]
    · iapply (Entails.of_eq (PL_all c f).symm)
      isplitl [W6 C6]
      · isplitl [W6] <;> iassumption
      isplitl [W7 C7]
      · isplitl [W7] <;> iassumption
      iexact HR
    rw [e3]; iexact HO
  iintro ⟨R3, HO⟩
  ihave R3 := (Entails.of_eq (RL_all G c _ _ _)) $$ R3
  icases R3 with ⟨D6, D7, Hs3, Hs4, HR⟩
  iapply (r4 _) $$ [W0 C0 HO]
  · isplitr; · iexact HI
    isplitr [HO]
    · isplitl [W0]; · iexact W0
      iexact C0
    iexact HO
  iintro ⟨⟨D0, Hg⟩, HO⟩
  iapply Hk
  isplitr [HO]
  · isplitl [D0 D5 D6 D7]
    · isplitl [D0]; · iexact D0
      isplitl [D5]; · iexact D5
      isplitl [D6] <;> iassumption
    isplitl [Hg]; · iexact Hg
    isplitl [Hs3]; · iexact Hs3
    isplitl [Hs4]; · iexact Hs4
    iexact HR
  iexact HO

end Edge

end Cert.Gather

end
-- ==== Proof.Sync.lean ====
/-
The barrier: a device tells its peers which of its buffers they may write, and waits for the same from them.
-/
module

public import proofs.«01_k».proof.Proof.Runs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : Dv → Vol F) (K : GSem nD τ sig → ℕ)

/-! ## The printed barrier -/

/-- The device's row in its column, and whether it is in the middle, as the body computes them. -/
def yW (d0 : Dv) : BitVec 32 := Scalar.remsi (Scalar.divsi (Dev.word d0) 4#32) 4#32
def inW (d0 : Dv) : BitVec 1 := Scalar.andi (Scalar.cmpi .sgt (yW d0) 0#32) (Scalar.cmpi .slt (yW d0) 3#32)
def condI (d0 : Dv) : BitVec 1 := Scalar.cmpi .ne (Scalar.extui (inW d0) : BitVec 32) 0#32
def condE (d0 : Dv) : BitVec 1 := Scalar.cmpi .ne (Scalar.extui (Scalar.xori (inW d0) 1#1) : BitVec 32) 0#32

theorem condI_inner : ∀ c : Dv, inner c = true → condI c = 1#1 := by decide +kernel
theorem condI_edge : ∀ c : Dv, inner c = false → ¬ condI c = 1#1 := by decide +kernel
theorem condE_inner : ∀ c : Dv, inner c = true → ¬ condE c = 1#1 := by decide +kernel
theorem condE_edge : ∀ c : Dv, inner c = false → condE c = 1#1 := by decide +kernel

/-- The signals and the wait. -/
def barP {α : Type} (x : α) (d0 : Dv) : TcProg F α := do
  semSignalWord (⟨k0_dev1 d0, k0_dev1_lt d0⟩ : Dev nD) barS 1#32
  if h1 : k0_cond1 d0 = 1#1 then do
    semSignalWord (⟨k0_dev2 d0, k0_dev2_lt d0 h1⟩ : Dev nD) barS 1#32
    pure ⟨⟩
  else pure ⟨⟩
  if h2 : k0_cond2 d0 = 1#1 then do
    semSignalWord (⟨k0_dev3 d0, k0_dev3_lt d0 h2⟩ : Dev nD) barS 1#32
    pure ⟨⟩
  else pure ⟨⟩
  if h3 : condI d0 = 1#1 then do
    semWaitWord barS 3#32
    pure ⟨⟩
  else pure ⟨⟩
  if h4 : condE d0 = 1#1 then do
    semWaitWord barS 2#32
    pure ⟨⟩
  else pure ⟨⟩
  pure x

section
variable (arg0 : Memref sig .tc .vmem S4x64x512 .f32) (arg1 : Memref sig .tc .vmem S512x512 .f32)
  (arg2 arg3 arg4 arg5 arg6 : Memref sig .tc .vmem S4x64x512 .f32)
  (arg7 arg8 arg9 arg10 arg11 arg12 arg13 arg14 : DmaSems sig S4)
  (harg0 : arg0.IsWhole) (harg1 : arg1.IsWhole) (harg2 : arg2.IsWhole) (harg3 : arg3.IsWhole)
  (harg4 : arg4.IsWhole) (harg5 : arg5.IsWhole) (harg6 : arg6.IsWhole)

theorem part28_eq : ∃ g : (d0 : Dv) → (Σ' (v2 : BitVec 32) (v5 : BitVec 32) (v8 : BitVec 32) (v9 : BitVec 32) (v10 : BitVec 32) (v26 : BitVec 1), BitVec 1),
    k0_part28 (F := F) arg0 harg0 arg1 harg1 arg2 harg2 arg3 harg3 arg4 harg4 arg5 harg5 arg6 harg6 arg7 arg8 arg9 arg10 arg11 arg12 arg13 arg14
      = (do let d0 ← Prog.lift .deviceId; barP ⟨d0, g d0⟩ d0) := by
  rw [k0_part28_eq_skeleton]
  refine ⟨fun d0 => ⟨Scalar.remsi (Scalar.divsi (Dev.word d0) 16#32) 2#32, yW d0, Scalar.remsi (Scalar.divsi (Dev.word d0) 1#32) 4#32,
    Scalar.subi 1#32 (Scalar.remsi (Scalar.divsi (Dev.word d0) 16#32) 2#32),
    Scalar.muli (Scalar.remsi (Scalar.divsi (Dev.word d0) 16#32) 2#32) 256#32, inW d0, Scalar.xori (inW d0) 1#1⟩, ?_⟩
  rfl

end

/-! ## One signal, one wait -/

/-- The right to signal `n`'s barrier under name `d`, with what the signal hands over. -/
abbrev barTok (n : Dv) (d : Fin 3) : sProp 𝕄 := iprop(dutyTok ER (bar n) 0 d ∗ bpay n d)

theorem sig_step (c n n' : Dv) (hn : n' = n) (d : Fin 3) (hd : d ∈ bduties n) (O : CellTallies nD τ sig Unit) (Q : PUnit → sProp 𝕄) :
    iprop(ctx G K ∗ barTok n d ∗ ow c (tallyAt (bar n) () 1 + O))
      ⊢ iprop((ow c O -∗ Q ⟨⟩) -∗ Wp c (semSignalWord (n' : Dev nD) barS 1#32) Q) := by
  subst hn
  unfold semSignalWord
  iintro ⟨#HI, ⟨Ht, Hp⟩, ⟨%W, HO⟩⟩ Hk
  iapply (Rounds.wp_signal 𝒱₀ ER (Rd G) (c : Thread nD τ) none (dst := (n' : Thread nD τ)) (sem := barS) (r := 0) (d := d) (κ := K (bar n'))
      (by rw [duties_bar]; exact hd) ((amount_bar G n' d).trans (by decide)) () O (add_comm _ _)) $$ [HO Ht Hp]
  · isplitr; · iapply (ctx_bar G K n'); iexact HI
    isplitl [HO]; · iexact HO
    isplitl [Ht]; · iexact Ht
    isplitl [Hp]; · rw [payload_bar]; iexact Hp
    iapply (ctx_reached G K n'); iexact HI
  iintro HO
  rw [wp_ret]
  imodintro
  iapply Hk
  iexists _; iexact HO

theorem barwait_step (c : Dv) (w : BitVec 32) (m : ℕ) (hw : w.toInt = (m : ℤ)) (hm : (Rd G).expect (bar c) 0 = m)
    {O : CellTallies nD τ sig Unit} (hO : Above 1 O) (Q : PUnit → sProp 𝕄) :
    iprop(ctx G K ∗ (atPos ER (bar c) 0 ∅ 0 ∗ cred (tallyAt (bar c) () m)) ∗ ow c O)
      ⊢ iprop(((atPos ER (bar c) (0 + 1) ∅ 0
            ∗ bigSep ((Rd G).duties (bar c) 0 \ ∅) (fun d => (Rd G).payload (bar c) 0 d)) ∗ ow c O -∗ Q ⟨⟩)
        -∗ Wp c (semWaitWord barS w) Q) := by
  unfold semWaitWord
  rw [hw]
  iintro ⟨#HI, ⟨Hat, Hc⟩, ⟨%W, HO⟩⟩ Hk
  iapply (Rounds.wp_wait_rest_token 𝒱₀ ER (Rd G) (c : Thread nD τ) none (κ := K (bar c))
      (wpE_semWait_eq 𝒱₀ (c : Thread nD τ) none Set.univ) (Set.mem_univ _) () (O := O) (W := W) (R := 0) (m := 0) (T := ∅)
      (by rw [hm, Nat.zero_add])) $$ [Hc HO Hat]
  · isplitr; · iapply (ctx_bar G K c); iexact HI
    isplitl [Hc]; · iexact Hc
    isplitl [HO]; · iexact HO
    isplitr; · iapply (ctx_mayWait G K hO (c := c) (s := .reg barS) (le_refl _)); iexact HI
    iexact Hat
  iintro ⟨HO, Hat, -, Hpay⟩
  rw [wp_ret]
  imodintro
  iapply Hk
  isplitr [HO]
  · isplitl [Hat] <;> iassumption
  iexists _; iexact HO

theorem Wp_pure (c : Dv) {α : Type} (x : α) (Q : α → sProp 𝕄) : Q x ⊢ Wp c (pure x : TcProg F α) Q := by
  rw [Prog.pure_eq_ret]
  unfold Wp
  rw [wp_ret]
  iintro H
  imodintro
  iexact H

theorem mem_bduties : ∀ c : Dv, (0 ∈ bduties (px c)) ∧ (1 ∈ bduties (pa c)) ∧ (inner c = true → 2 ∈ bduties (mi c)) := by decide +kernel

theorem bar_inner (c : Dv) (hc : inner c = true) {α : Type} (x : α) {O : CellTallies nD τ sig Unit} (hO : Above 1 O) (Q : α → sProp 𝕄) :
    iprop(ctx G K ∗ (barTok (px c) 0 ∗ barTok (pa c) 1 ∗ barTok (mi c) 2 ∗ atPos ER (bar c) 0 ∅ 0 ∗ cred (tallyAt (bar c) () 3))
        ∗ ow c (tallyAt (bar (px c)) () 1 + (tallyAt (bar (pa c)) () 1 + (tallyAt (bar (mi c)) () 1 + O))))
      ⊢ iprop(((barPay (px c) s4 7 ∗ barPay (pa c) s3 5 ∗ barPay (mi c) s2 3) ∗ atPos ER (bar c) (0 + 1) ∅ 0 ∗ ow c O -∗ Q x)
        -∗ Wp c (barP x c) Q) := by
  obtain ⟨m0, m1, m2⟩ := mem_bduties c
  have hI := condI_inner c hc
  have hE := condE_inner c hc
  have hy : c.val / 4 % 4 = 1 ∨ c.val / 4 % 4 = 2 := by
    simpa [inner] using hc
  have h1 : k0_cond1 c = 1#1 := (cond1_iff c).mpr (by omega)
  have h2 : k0_cond2 c = 1#1 := (cond2_iff c).mpr (by omega)
  unfold barP
  simp only [dif_pos h1, dif_pos h2, dif_pos hI, dif_neg hE, bind_assoc, pure_bind, Wp_bind]
  rcases hy with hy | hy
  · rw [add_left_comm (tallyAt (bar (pa c)) () 1)]
    iintro ⟨#HI, ⟨Hx, Ha, Hm, Hat, HC⟩, HO⟩ Hk
    iapply (sig_step G K c (px c) _ (dev1 c) 0 m0 _ _) $$ [Hx HO]
    · isplitr; · iexact HI
      isplitl [Hx]; · iexact Hx
      iexact HO
    iintro HO
    have eh1 := dev2_mi c h1 (by omega)
    iapply (sig_step G K c (mi c) _ eh1 2 (m2 hc) _ _) $$ [Hm HO]
    · isplitr; · iexact HI
      isplitl [Hm]; · iexact Hm
      iexact HO
    iintro HO
    have eh2 := dev3_pa c h2 (by omega)
    iapply (sig_step G K c (pa c) _ eh2 1 m1 _ _) $$ [Ha HO]
    · isplitr; · iexact HI
      isplitl [Ha]; · iexact Ha
      iexact HO
    iintro HO
    iapply (barwait_step G K c 3#32 3 (by decide) (by rw [expect_bar, hc]; rfl) hO _) $$ [Hat HC HO]
    · isplitr; · iexact HI
      isplitl [Hat HC]
      · isplitl [Hat] <;> iassumption
      iexact HO
    iintro ⟨⟨Hat, Hp⟩, HO⟩
    ihave Hp := (Entails.of_eq (rest_bar_inner G c hc)) $$ Hp
    iapply (Wp_pure c x)
    iapply Hk
    isplitl [Hp]; · iexact Hp
    isplitl [Hat]; · iexact Hat
    iexact HO
  · iintro ⟨#HI, ⟨Hx, Ha, Hm, Hat, HC⟩, HO⟩ Hk
    iapply (sig_step G K c (px c) _ (dev1 c) 0 m0 _ _) $$ [Hx HO]
    · isplitr; · iexact HI
      isplitl [Hx]; · iexact Hx
      iexact HO
    iintro HO
    have eh1 := dev2_pa c h1 (by omega)
    iapply (sig_step G K c (pa c) _ eh1 1 m1 _ _) $$ [Ha HO]
    · isplitr; · iexact HI
      isplitl [Ha]; · iexact Ha
      iexact HO
    iintro HO
    have eh2 := dev3_mi c h2 (by omega)
    iapply (sig_step G K c (mi c) _ eh2 2 (m2 hc) _ _) $$ [Hm HO]
    · isplitr; · iexact HI
      isplitl [Hm]; · iexact Hm
      iexact HO
    iintro HO
    iapply (barwait_step G K c 3#32 3 (by decide) (by rw [expect_bar, hc]; rfl) hO _) $$ [Hat HC HO]
    · isplitr; · iexact HI
      isplitl [Hat HC]
      · isplitl [Hat] <;> iassumption
      iexact HO
    iintro ⟨⟨Hat, Hp⟩, HO⟩
    ihave Hp := (Entails.of_eq (rest_bar_inner G c hc)) $$ Hp
    iapply (Wp_pure c x)
    iapply Hk
    isplitl [Hp]; · iexact Hp
    isplitl [Hat]; · iexact Hat
    iexact HO

theorem bar_edge (c : Dv) (hc : inner c = false) {α : Type} (x : α) {O : CellTallies nD τ sig Unit} (hO : Above 1 O) (Q : α → sProp 𝕄) :
    iprop(ctx G K ∗ (barTok (px c) 0 ∗ barTok (pa c) 1 ∗ atPos ER (bar c) 0 ∅ 0 ∗ cred (tallyAt (bar c) () 2))
        ∗ ow c (tallyAt (bar (px c)) () 1 + (tallyAt (bar (pa c)) () 1 + O)))
      ⊢ iprop(((barPay (px c) s4 7 ∗ barPay (pa c) s1 1) ∗ atPos ER (bar c) (0 + 1) ∅ 0 ∗ ow c O -∗ Q x)
        -∗ Wp c (barP x c) Q) := by
  obtain ⟨m0, m1, m2⟩ := mem_bduties c
  have hI := condI_edge c hc
  have hE := condE_edge c hc
  have hy : c.val / 4 % 4 = 0 ∨ c.val / 4 % 4 = 3 := by
    have : ¬ (c.val / 4 % 4 = 1) ∧ ¬ (c.val / 4 % 4 = 2) := by simpa [inner] using hc
    omega
  rcases hy with hy | hy
  · have h1 : k0_cond1 c = 1#1 := (cond1_iff c).mpr (by omega)
    have h2 : ¬ k0_cond2 c = 1#1 := fun h => (cond2_iff c).mp h hy
    unfold barP
    simp only [dif_pos h1, dif_neg h2, dif_neg hI, dif_pos hE, bind_assoc, pure_bind, Wp_bind]
    iintro ⟨#HI, ⟨Hx, Ha, Hat, HC⟩, HO⟩ Hk
    iapply (sig_step G K c (px c) _ (dev1 c) 0 m0 _ _) $$ [Hx HO]
    · isplitr; · iexact HI
      isplitl [Hx]; · iexact Hx
      iexact HO
    iintro HO
    have eh1 := dev2_pa c h1 (by omega)
    iapply (sig_step G K c (pa c) _ eh1 1 m1 _ _) $$ [Ha HO]
    · isplitr; · iexact HI
      isplitl [Ha]; · iexact Ha
      iexact HO
    iintro HO
    iapply (barwait_step G K c 2#32 2 (by decide) (by rw [expect_bar, hc]; rfl) hO _) $$ [Hat HC HO]
    · isplitr; · iexact HI
      isplitl [Hat HC]
      · isplitl [Hat] <;> iassumption
      iexact HO
    iintro ⟨⟨Hat, Hp⟩, HO⟩
    ihave Hp := (Entails.of_eq (rest_bar_edge G c hc)) $$ Hp
    iapply (Wp_pure c x)
    iapply Hk
    isplitl [Hp]; · iexact Hp
    isplitl [Hat]; · iexact Hat
    iexact HO
  · have h1 : ¬ k0_cond1 c = 1#1 := fun h => (cond1_iff c).mp h hy
    have h2 : k0_cond2 c = 1#1 := (cond2_iff c).mpr (by omega)
    unfold barP
    simp only [dif_neg h1, dif_pos h2, dif_neg hI, dif_pos hE, bind_assoc, pure_bind, Wp_bind]
    iintro ⟨#HI, ⟨Hx, Ha, Hat, HC⟩, HO⟩ Hk
    iapply (sig_step G K c (px c) _ (dev1 c) 0 m0 _ _) $$ [Hx HO]
    · isplitr; · iexact HI
      isplitl [Hx]; · iexact Hx
      iexact HO
    iintro HO
    have eh2 := dev3_pa c h2 (by omega)
    iapply (sig_step G K c (pa c) _ eh2 1 m1 _ _) $$ [Ha HO]
    · isplitr; · iexact HI
      isplitl [Ha]; · iexact Ha
      iexact HO
    iintro HO
    iapply (barwait_step G K c 2#32 2 (by decide) (by rw [expect_bar, hc]; rfl) hO _) $$ [Hat HC HO]
    · isplitr; · iexact HI
      isplitl [Hat HC]
      · isplitl [Hat] <;> iassumption
      iexact HO
    iintro ⟨⟨Hat, Hp⟩, HO⟩
    ihave Hp := (Entails.of_eq (rest_bar_edge G c hc)) $$ Hp
    iapply (Wp_pure c x)
    iapply Hk
    isplitl [Hp]; · iexact Hp
    isplitl [Hat]; · iexact Hat
    iexact HO

end Cert.Gather

end
-- ==== Proof.Body.lean ====
/-
The whole body, on a middle device and on an end device: its semaphores are opened, the barrier lends the buffers out,
the copies run, the buffers and the semaphores come back.
-/
module

public import proofs.«01_k».proof.Proof.Sync

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : Dv → Vol F) (K : GSem nD τ sig → ℕ)

/-! ## A family of semaphores at a time -/

def sv (c : Dv) (j : Fin 8) : sProp 𝕄 := all4 fun k => semVal (cell c j k) 0
def opn (c : Dv) (j : Fin 8) : sProp 𝕄 := all4 fun k => openTok ER (cell c j k)
abbrev wb (c : Dv) (j : Fin 8) : sProp 𝕄 := all4 fun k => WB c j k
abbrev wd (c : Dv) (j : Fin 8) : sProp 𝕄 := all4 fun k => WD c j k
def rc (c : Dv) (j : Fin 8) : sProp 𝕄 := all4 fun k => reached ER (cell c j k) 0
def dt (c : Dv) (j : Fin 8) : sProp 𝕄 := all4 fun k => dutyTok ER (cell c j k) 0 0
abbrev crd (c : Dv) (j : Fin 8) : sProp 𝕄 := all4 fun k => CR c j k

instance rc_persistent (c : Dv) (j : Fin 8) : BI.Persistent (rc (F := F) c j) := by unfold rc; infer_instance

theorem open_one (c : Dv) (j : Fin 8) (k : Fin 4) :
    iprop(ctx G K ∗ openTok ER (cell c j k) ∗ semVal (cell c j k) 0)
      ⊢ (|={Set.univ}=> iprop(WB c j k ∗ reached ER (cell c j k) 0) : sProp 𝕄) := by
  iintro ⟨#HI, Ho, Hv⟩
  iapply (Rounds.cell_open ER (Rd G) (g := cell c j k) (Set.mem_univ (K (cell c j k))))
  isplitr; · iapply (ctx_cell G K c j k); iexact HI
  isplitl [Ho] <;> iassumption

theorem close_one (c : Dv) (j : Fin 8) (k : Fin 4) :
    iprop(ctx G K ∗ WD c j k) ⊢ (|={Set.univ}=> semVal (cell c j k) 0 : sProp 𝕄) := by
  iintro ⟨#HI, Ho⟩
  iapply (Rounds.cell_close ER (Rd G) (Set.mem_univ (K (cell c j k))) id (R := 0 + 1) (duties_later G (cell c j k)))
  isplitr; · iapply (ctx_cell G K c j k); iexact HI
  iexact Ho

theorem close_bar (c : Dv) :
    iprop(ctx G K ∗ atPos ER (bar c) (0 + 1) ∅ 0) ⊢ (|={Set.univ}=> semVal (bar c) 0 : sProp 𝕄) := by
  iintro ⟨#HI, Ho⟩
  iapply (Rounds.cell_close ER (Rd G) (Set.mem_univ (K (bar c))) id (R := 0 + 1) (duties_later G (bar c)))
  isplitr; · iapply (ctx_bar G K c); iexact HI
  iexact Ho

theorem open_four (c : Dv) (j : Fin 8) :
    iprop(ctx G K ∗ opn c j ∗ sv c j) ⊢ (|={Set.univ}=> iprop(wb c j ∗ rc c j) : sProp 𝕄) := by
  unfold opn sv wb rc
  rw [← all4_sep (P := fun k => WB c j k)]
  iintro ⟨#HI, ⟨O0, O1, O2, O3⟩, V0, V1, V2, V3⟩
  imod (open_one G K c j 0) $$ [O0 V0] with H0
  · isplitr; · iexact HI
    isplitl [O0] <;> iassumption
  imod (open_one G K c j 1) $$ [O1 V1] with H1
  · isplitr; · iexact HI
    isplitl [O1] <;> iassumption
  imod (open_one G K c j 2) $$ [O2 V2] with H2
  · isplitr; · iexact HI
    isplitl [O2] <;> iassumption
  imod (open_one G K c j 3) $$ [O3 V3] with H3
  · isplitr; · iexact HI
    isplitl [O3] <;> iassumption
  imodintro
  isplitl [H0]; · iexact H0
  isplitl [H1]; · iexact H1
  isplitl [H2]; · iexact H2
  iexact H3

theorem close_four (c : Dv) (j : Fin 8) : iprop(ctx G K ∗ wd c j) ⊢ (|={Set.univ}=> sv c j : sProp 𝕄) := by
  unfold sv wd
  iintro ⟨#HI, O0, O1, O2, O3⟩
  imod (close_one G K c j 0) $$ [O0] with H0
  · isplitr; · iexact HI
    iexact O0
  imod (close_one G K c j 1) $$ [O1] with H1
  · isplitr; · iexact HI
    iexact O1
  imod (close_one G K c j 2) $$ [O2] with H2
  · isplitr; · iexact HI
    iexact O2
  imod (close_one G K c j 3) $$ [O3] with H3
  · isplitr; · iexact HI
    iexact O3
  imodintro
  isplitl [H0]; · iexact H0
  isplitl [H1]; · iexact H1
  isplitl [H2]; · iexact H2
  iexact H3

/-! ## Buffers lent and returned -/

/-- A buffer held whole, at contents not named. -/
abbrev anyB (c : Dv) (b : Mr) : sProp 𝕄 := iprop(∃ f, b.view.loc (c : Thread nD τ) ↦{fullShare} f)

theorem lend (c : Dv) (b : Mr) (hb : b.view.set = Finset.univ) :
    (anyB c b : sProp 𝕄) ⊢ all4 fun k => iprop(∃ f, ch c b k fullShare f) := by
  iintro ⟨%f, H⟩
  ihave H := (Entails.of_eq (whole_chunks c b hb fullShare f)) $$ H
  iapply (all4_mono (P := fun k => ch c b k fullShare f) fun k => by iintro H; iexists f; iexact H)
  iexact H

theorem lend_pay (c : Dv) (b : Mr) (hb : b.view.set = Finset.univ) (j : Fin 8) :
    iprop(anyB c b ∗ rc c j) ⊢ (barPay c b j : sProp 𝕄) := by
  iintro ⟨H, Hr⟩
  ihave H := (lend c b hb) $$ H
  unfold barPay rc
  iapply (Entails.of_eq (all4_sep (F := F) (fun k => iprop(∃ f, ch c b k fullShare f)) (fun k => reached ER (cell c j k) 0)).symm)
  isplitl [H] <;> iassumption

theorem back (c : Dv) (b : Mr) (hb : b.view.set = Finset.univ) (g : b.view.ty.Contents (Elt F)) :
    (all4 fun k => ch c b k fullShare g) ⊢ (anyB c b : sProp 𝕄) := by
  rw [← whole_chunks c b hb fullShare g]
  iintro H; iexists g; iexact H

theorem back_halves (c : Dv) (b : Mr) (hb : b.view.set = Finset.univ) (g : b.view.ty.Contents (Elt F)) :
    iprop((all4 fun k => ch c b k fullShare.left g) ∗ all4 fun k => ch c b k fullShare.right g) ⊢ (anyB c b : sProp 𝕄) := by
  rw [← whole_chunks c b hb fullShare.left g, ← whole_chunks c b hb fullShare.right g]
  iintro H; iexists g
  iapply (pointsTo_share (PosShare.mem_left_op_right fullShare)).2
  iexact H

/-- What the barrier lends, put together with the rights to signal. -/
theorem sb_make (c : Dv) (j : Fin 8) (n : Dv) (j' : Fin 8) (dst : Mr) :
    iprop((dt c j ∗ rc c j) ∗ dt n j' ∗ barPay n dst j') ⊢ (all4 fun k => SB c j n j' k dst : sProp 𝕄) := by
  unfold dt rc barPay
  exact Entails.of_eq (by simp only [← all4_sep])

theorem pi1_make (c : Dv) :
    iprop((wb c 1 ∗ crd c 1) ∗ (all4 fun k => ch c stg k fullShare (G c)) ∗ (all4 fun k => iprop(∃ f, ch c s0 k fullShare f))
      ∗ all4 fun k => SB c 2 (mi c) 3 k s2) ⊢ (all4 (PI1 G c) : sProp 𝕄) := by
  unfold wb crd
  exact Entails.of_eq (by rw [← all4_sep, ← all4_sep, ← all4_sep, ← all4_sep]; rfl)
theorem pe1_make (c : Dv) :
    iprop((all4 fun k => ch c stg k fullShare (G c)) ∗ all4 fun k => SB c 0 (pa c) 1 k s1) ⊢ (all4 (PE1 G c) : sProp 𝕄) :=
  Entails.of_eq (by rw [← all4_sep]; rfl)
theorem pe2_make (c : Dv) :
    iprop((wb c 5 ∗ crd c 5) ∗ all4 fun k => SB c 6 (px c) 7 k s4) ⊢ (all4 (PE2 c) : sProp 𝕄) := by
  unfold wb crd
  exact Entails.of_eq (by rw [← all4_sep, ← all4_sep]; rfl)

/-! ## What a device brings to the call and takes away -/

/-- The rights it pays with. -/
def Tok (c : Dv) : sProp 𝕄 :=
  iprop((dutyTok ER (bar (px c)) 0 0 ∗ dutyTok ER (bar (pa c)) 0 1 ∗ dutyTok ER (bar (mi c)) 0 2)
    ∗ dt c 0 ∗ dt (pa c) 1 ∗ dt c 2 ∗ dt (mi c) 3 ∗ dt c 4 ∗ dt (pa c) 5 ∗ dt c 6 ∗ dt (px c) 7)
/-- The credits it waits with. -/
def Cr (c : Dv) : sProp 𝕄 :=
  if inner c then iprop(cred (tallyAt (bar c) () 3) ∗ crd c 1 ∗ crd c 3 ∗ crd c 7)
  else iprop(cred (tallyAt (bar c) () 2) ∗ crd c 5 ∗ crd c 7)
/-- The rights to open its semaphores; their counters. -/
def Ops (c : Dv) : sProp 𝕄 := iprop(opn c 0 ∗ opn c 1 ∗ opn c 2 ∗ opn c 3 ∗ opn c 4 ∗ opn c 5 ∗ opn c 6 ∗ opn c 7)
def Svs (c : Dv) : sProp 𝕄 := iprop(sv c 0 ∗ sv c 1 ∗ sv c 2 ∗ sv c 3 ∗ sv c 4 ∗ sv c 5 ∗ sv c 6 ∗ sv c 7)
def Mine (c : Dv) : sProp 𝕄 := iprop(atPos ER (bar c) 0 ∅ 0 ∗ Ops c ∗ Tok c ∗ Cr c)
/-- The five scratch buffers. -/
def Scr (c : Dv) : sProp 𝕄 := iprop(anyB c s0 ∗ anyB c s1 ∗ anyB c s2 ∗ anyB c s3 ∗ anyB c s4)
/-- What it owes at launch. -/
def O₀ (c : Dv) : CellTallies nD τ sig Unit :=
  tallyAt (bar (px c)) () 1 + (tallyAt (bar (pa c)) () 1
    + (if inner c then tallyAt (bar (mi c)) () 1 + restI c else restE c))

abbrev stgP (c : Dv) (f : Vol F) : sProp 𝕄 := stg.view.loc (c : Thread nD τ) ↦{fullShare} f
abbrev obP (c : Dv) (f : FVec F S512x512 .f32) : sProp 𝕄 := ob.view.loc (c : Thread nD τ) ↦{fullShare} f

def bodyPre (c : Dv) (f : FVec F S512x512 .f32) : sProp 𝕄 :=
  iprop(Mine c ∗ Svs c ∗ Scr c ∗ stgP c (G c) ∗ obP c f)
def bodyPost (c : Dv) : sProp 𝕄 :=
  iprop(semVal (bar c) 0 ∗ Svs c ∗ Scr c ∗ stgP c (G c) ∗ obP c (Res G c))

/-! ## The body's two forms -/

abbrev theBody : TcProg F PUnit :=
  bodyP stg ob s0 s1 s2 s3 s4 cc0_scratch5 cc0_scratch6 cc0_scratch7 cc0_scratch8 cc0_scratch9 cc0_scratch10 cc0_scratch11 cc0_scratch12
    (Memref.isWhole_whole _) (Memref.isWhole_whole _) (Memref.isWhole_whole _) (Memref.isWhole_whole _) (Memref.isWhole_whole _)
    (Memref.isWhole_whole _) (Memref.isWhole_whole _)

/-- What follows the barrier. -/
def afterBar (d : Dv) : TcProg F PUnit := do
  if h5 : k0_cond5 d = 1#1 then
    four fun k => edge1 stg s1 cc0_scratch5 cc0_scratch6 (paE d h5 k) k
  else pure ⟨⟩
  if h6 : k0_cond6 d = 1#1 then
    innerProg stg ob s0 s1 s2 s3 s4 cc0_scratch6 cc0_scratch7 cc0_scratch8 cc0_scratch9 cc0_scratch10 cc0_scratch11 cc0_scratch12
      (midK d h6) (paK d h6) (pxK d h6)
      (fun k => k0_off1 d (BitVec.ofNat 32 (64 * k.val))) (fun k => k0_off2 d (BitVec.ofNat 32 (64 * k.val)))
      (k0_off1_inb d h6) (k0_off2_inb d h6)
  else pure ⟨⟩
  if h7 : k0_cond7 d = 1#1 then do
    four fun k => edge2 s0 s3 s4 cc0_scratch10 cc0_scratch11 cc0_scratch12 (pxE d h7 k) k
    four fun k => last ob s4 cc0_scratch11 cc0_scratch12 s3 (k0_off3 d (BitVec.ofNat 32 (64 * k.val))) (k0_off4 d (BitVec.ofNat 32 (64 * k.val))) (k0_off3_inb d h7 k) (k0_off4_inb d h7 k) k
    four fun k => wt cc0_scratch5 s1 stg k
  else pure ⟨⟩
  pure ⟨⟩

theorem Wp_deviceId (c : Dv) (Q : Dv → sProp 𝕄) : Q c ⊢ Wp c (Prog.lift .deviceId : TcProg F Dv) Q := by
  show _ ⊢ wp frame (wpE (defs₀ (F := F)) 𝒱₀ (c : Thread nD τ) none) Set.univ (Prog.op .deviceId fun d => Prog.ret d) _
  rw [wp_deviceId, wp_ret]
  iintro H
  imodintro
  iexact H

/-- What the printed barrier leaves: the device's number and some words computed from it. -/
abbrev Place : Type :=
  Σ' (d0 : Dv) (v2 : BitVec 32) (v5 : BitVec 32) (v8 : BitVec 32) (v9 : BitVec 32) (v10 : BitVec 32) (v26 : BitVec 1), BitVec 1

/-- The barrier, then what follows it on device `c`. -/
theorem body_split (c : Dv) (Q : PUnit → sProp 𝕄) :
    ∃ x : Place, x.1 = c ∧ (Wp c (barP (F := F) x c) (fun r => Wp c (afterBar r.1) Q) ⊢ Wp c theBody Q) := by
  obtain ⟨g, hg⟩ := part28_eq (F := F) stg ob s0 s1 s2 s3 s4 cc0_scratch5 cc0_scratch6 cc0_scratch7 cc0_scratch8 cc0_scratch9 cc0_scratch10
    cc0_scratch11 cc0_scratch12 (Memref.isWhole_whole _) (Memref.isWhole_whole _) (Memref.isWhole_whole _) (Memref.isWhole_whole _)
    (Memref.isWhole_whole _) (Memref.isWhole_whole _) (Memref.isWhole_whole _)
  refine ⟨(⟨c, g c⟩ : Place), rfl, ?_⟩
  have hb : (theBody : TcProg F PUnit) = (do
      let r ← (do let d0 ← Prog.lift .deviceId; barP (F := F) (⟨d0, g d0⟩ : Place) d0 : TcProg F Place)
      afterBar r.1) := by
    rw [← hg]; rfl
  rw [hb, Wp_bind, Wp_bind]
  exact Wp_deviceId c fun d => Wp c (barP (F := F) (⟨d, g d⟩ : Place) d) fun r => Wp c (afterBar r.1) Q

theorem prog_inner (c : Dv) (hc : inner c = true) (Q : PUnit → sProp 𝕄) :
    Wp c (innerProg stg ob s0 s1 s2 s3 s4 cc0_scratch6 cc0_scratch7 cc0_scratch8 cc0_scratch9
        cc0_scratch10 cc0_scratch11 cc0_scratch12 (midK c (cond6_inner c hc)) (paK c (cond6_inner c hc)) (pxK c (cond6_inner c hc))
        (fun k => k0_off1 c (BitVec.ofNat 32 (64 * k.val))) (fun k => k0_off2 c (BitVec.ofNat 32 (64 * k.val)))
        (k0_off1_inb c (cond6_inner c hc)) (k0_off2_inb c (cond6_inner c hc))) Q ⊢ Wp c (afterBar c) Q := by
  unfold afterBar
  rw [dif_neg (cond5_inner c hc), dif_pos (cond6_inner c hc), dif_neg (cond7_inner c hc)]
  exact Entails.of_eq (congrArg (fun p => Wp c p Q) (bind_pure _).symm)

theorem prog_edge (c : Dv) (hc : inner c = false) (Q : PUnit → sProp 𝕄) :
    Wp c (edgeProg stg ob s0 s1 s3 s4 cc0_scratch5 cc0_scratch6 cc0_scratch10 cc0_scratch11
        cc0_scratch12 (paE c (cond5_edge c hc)) (pxE c (cond7_edge c hc))
        (fun k => k0_off3 c (BitVec.ofNat 32 (64 * k.val))) (fun k => k0_off4 c (BitVec.ofNat 32 (64 * k.val)))
        (k0_off3_inb c (cond7_edge c hc)) (k0_off4_inb c (cond7_edge c hc))) Q ⊢ Wp c (afterBar c) Q := by
  unfold afterBar
  rw [dif_pos (cond5_edge c hc), dif_neg (cond6_edge c hc), dif_pos (cond7_edge c hc)]
  exact Entails.of_eq (congrArg (fun p => Wp c p Q)
    (bind_congr fun _ => bind_congr fun _ => bind_congr fun _ => (bind_pure _).symm))

/-! ## The whole body -/

theorem bpay_px (c : Dv) : bpay (F := F) (px c) 0 = barPay c s4 7 := by
  unfold bpay; rw [px_px]
theorem bpay_pa_inner (c : Dv) (hc : inner c = true) : bpay (F := F) (pa c) 1 = barPay c s1 1 := by
  unfold bpay; dsimp only; rw [pa_pa, inner_pa, hc]; rfl
theorem bpay_pa_edge (c : Dv) (hc : inner c = false) : bpay (F := F) (pa c) 1 = barPay c s3 5 := by
  unfold bpay; dsimp only; rw [pa_pa, inner_pa, hc]; rfl
theorem bpay_mi (c : Dv) : bpay (F := F) (mi c) 2 = barPay c s2 3 := by
  unfold bpay; rw [mi_mi]

theorem body_inner (c : Dv) (hc : inner c = true) (f : FVec F S512x512 .f32) (Q : PUnit → sProp 𝕄) :
    iprop(ctx G K ∗ bodyPre G c f ∗ ow c (O₀ c)) ⊢ iprop(((bodyPost G c ∗ ow c 0) -∗ Q ⟨⟩) -∗ Wp c theBody Q) := by
  obtain ⟨x, hx, hsplit⟩ := body_split (F := F) c fun a => iprop(|={Set.univ}=> Q a)
  unfold bodyPre bodyPost Mine Ops Svs Scr Tok Cr O₀
  simp only [hc, if_true]
  iintro ⟨#HI, ⟨⟨Hat, ⟨O0, O1, O2, O3, O4, O5, O6, O7⟩, ⟨⟨Tx, Ta, Tm⟩, D0, D1, D2, D3, D4, D5, D6, D7⟩, Cb, C1, C3, C7⟩,
    ⟨V0, V1, V2, V3, V4, V5, V6, V7⟩, ⟨B0, B1, B2, B3, B4⟩, Hg, Ho⟩, HO⟩ Hk
  imod (open_four G K c 1) $$ [O1 V1] with ⟨W1, R1⟩
  · isplitr; · iexact HI
    isplitl [O1] <;> iassumption
  imod (open_four G K c 2) $$ [O2 V2] with ⟨W2, R2⟩
  · isplitr; · iexact HI
    isplitl [O2] <;> iassumption
  imod (open_four G K c 3) $$ [O3 V3] with ⟨W3, R3⟩
  · isplitr; · iexact HI
    isplitl [O3] <;> iassumption
  imod (open_four G K c 4) $$ [O4 V4] with ⟨W4, R4⟩
  · isplitr; · iexact HI
    isplitl [O4] <;> iassumption
  imod (open_four G K c 6) $$ [O6 V6] with ⟨W6, R6⟩
  · isplitr; · iexact HI
    isplitl [O6] <;> iassumption
  imod (open_four G K c 7) $$ [O7 V7] with ⟨W7, R7⟩
  · isplitr; · iexact HI
    isplitl [O7] <;> iassumption
  iapply (wp_fupd _ _)
  iapply hsplit
  iapply (bar_inner G K c hc x (above_restI c) _) $$ [Tx Ta Tm Hat Cb B1 B2 B4 R1 R3 R7 HO]
  · isplitr; · iexact HI
    isplitr [HO]
    · isplitl [Tx B4 R7]
      · isplitl [Tx]; · iexact Tx
        rw [bpay_px]
        iapply (lend_pay c s4 (View.set_whole _) 7)
        isplitl [B4] <;> iassumption
      isplitl [Ta B1 R1]
      · isplitl [Ta]; · iexact Ta
        rw [bpay_pa_inner c hc]
        iapply (lend_pay c s1 (View.set_whole _) 1)
        isplitl [B1] <;> iassumption
      isplitl [Tm B2 R3]
      · isplitl [Tm]; · iexact Tm
        rw [bpay_mi]
        iapply (lend_pay c s2 (View.set_whole _) 3)
        isplitl [B2] <;> iassumption
      isplitl [Hat] <;> iassumption
    iexact HO
  iintro ⟨⟨Px, Pa, Pm⟩, Hat, HO⟩
  rw [hx]
  iapply (prog_inner c hc _)
  iapply (inner_run G K c hc f (midK c (cond6_inner c hc)) (paK c (cond6_inner c hc)) (pxK c (cond6_inner c hc))
      (midK_eq c _) (paK_eq c _) (pxK_eq c _) _ _ _ _ (k0_off1_eq c) (k0_off2_eq c) _) $$ [D2 R2 D3 Pm D4 R4 D5 Pa D6 R6 D7 Px W1 C1 Hg B0 W2 W3 C3 W6 W7 C7 Ho W4 HO]
  · isplitr; · iexact HI
    isplitr [HO]
    · unfold preI
      isplitl [D2 R2 D3 Pm W1 C1 Hg B0]
      · iapply (pi1_make G c)
        isplitl [W1 C1]
        · isplitl [W1] <;> iassumption
        isplitl [Hg]
        · iapply (Entails.of_eq (whole_chunks c stg (View.set_whole _) fullShare (G c)))
          iexact Hg
        isplitl [B0]
        · iapply (lend c s0 (View.set_whole _)); iexact B0
        iapply (sb_make c 2 (mi c) 3 s2)
        isplitl [D2 R2]
        · isplitl [D2] <;> iassumption
        isplitl [D3] <;> iassumption
      isplitl [W2]; · iexact W2
      isplitl [W3]; · iexact W3
      isplitl [C3]; · iexact C3
      isplitl [D4 R4 D5 Pa]
      · iapply (sb_make c 4 (pa c) 5 s3)
        isplitl [D4 R4]
        · isplitl [D4] <;> iassumption
        isplitl [D5] <;> iassumption
      isplitl [D6 R6 D7 Px]
      · iapply (sb_make c 6 (px c) 7 s4)
        isplitl [D6 R6]
        · isplitl [D6] <;> iassumption
        isplitl [D7] <;> iassumption
      isplitl [W6]; · iexact W6
      isplitl [W7]; · iexact W7
      isplitl [C7]; · iexact C7
      isplitl [Ho]
      · iapply (Entails.of_eq (rows_lanes c f)); iexact Ho
      iexact W4
    iexact HO
  unfold postI
  iintro ⟨⟨⟨E1, E2, E3, E4, E6, E7⟩, Hg, Hs0, H1, H2, H4, Ho⟩, HO⟩
  imod (close_four G K c 1) $$ [E1] with V1
  · isplitr; · iexact HI
    iexact E1
  imod (close_four G K c 2) $$ [E2] with V2
  · isplitr; · iexact HI
    iexact E2
  imod (close_four G K c 3) $$ [E3] with V3
  · isplitr; · iexact HI
    iexact E3
  imod (close_four G K c 4) $$ [E4] with V4
  · isplitr; · iexact HI
    iexact E4
  imod (close_four G K c 6) $$ [E6] with V6
  · isplitr; · iexact HI
    iexact E6
  imod (close_four G K c 7) $$ [E7] with V7
  · isplitr; · iexact HI
    iexact E7
  imod (close_bar G K c) $$ [Hat] with Hb
  · isplitr; · iexact HI
    iexact Hat
  imodintro
  iapply Hk
  isplitr [HO]
  · isplitl [Hb]; · iexact Hb
    isplitl [V0 V1 V2 V3 V4 V5 V6 V7]
    · isplitl [V0]; · iexact V0
      isplitl [V1]; · iexact V1
      isplitl [V2]; · iexact V2
      isplitl [V3]; · iexact V3
      isplitl [V4]; · iexact V4
      isplitl [V5]; · iexact V5
      isplitl [V6] <;> iassumption
    isplitl [Hs0 H1 H2 B3 H4]
    · isplitl [Hs0]
      · iapply (back_halves c s0 (View.set_whole _) (B G c)); iexact Hs0
      isplitl [H1]
      · iapply (back c s1 (View.set_whole _) (G (pa c))); iexact H1
      isplitl [H2]
      · iapply (back c s2 (View.set_whole _) (A G (mi c))); iexact H2
      isplitl [B3]; · iexact B3
      iapply (back c s4 (View.set_whole _) (T G (px c))); iexact H4
    isplitl [Hg]
    · iapply (Entails.of_eq (whole_chunks c stg (View.set_whole _) fullShare (G c)).symm)
      iexact Hg
    iapply (Entails.of_eq (rows_lanes c (Res G c)).symm); iexact Ho
  iexact HO

theorem body_edge (c : Dv) (hc : inner c = false) (f : FVec F S512x512 .f32) (Q : PUnit → sProp 𝕄) :
    iprop(ctx G K ∗ bodyPre G c f ∗ ow c (O₀ c)) ⊢ iprop(((bodyPost G c ∗ ow c 0) -∗ Q ⟨⟩) -∗ Wp c theBody Q) := by
  obtain ⟨x, hx, hsplit⟩ := body_split (F := F) c fun a => iprop(|={Set.univ}=> Q a)
  have hc' : ¬ inner c = true := by simp [hc]
  unfold bodyPre bodyPost Mine Ops Svs Scr Tok Cr O₀
  rw [if_neg hc', if_neg hc']
  iintro ⟨#HI, ⟨⟨Hat, ⟨O0, O1, O2, O3, O4, O5, O6, O7⟩, ⟨⟨Tx, Ta, Tm⟩, D0, D1, D2, D3, D4, D5, D6, D7⟩, Cb, C5, C7⟩,
    ⟨V0, V1, V2, V3, V4, V5, V6, V7⟩, ⟨B0, B1, B2, B3, B4⟩, Hg, Ho⟩, HO⟩ Hk
  imod (open_four G K c 0) $$ [O0 V0] with ⟨W0, R0⟩
  · isplitr; · iexact HI
    isplitl [O0] <;> iassumption
  imod (open_four G K c 5) $$ [O5 V5] with ⟨W5, R5⟩
  · isplitr; · iexact HI
    isplitl [O5] <;> iassumption
  imod (open_four G K c 6) $$ [O6 V6] with ⟨W6, R6⟩
  · isplitr; · iexact HI
    isplitl [O6] <;> iassumption
  imod (open_four G K c 7) $$ [O7 V7] with ⟨W7, R7⟩
  · isplitr; · iexact HI
    isplitl [O7] <;> iassumption
  iapply (wp_fupd _ _)
  iapply hsplit
  iapply (bar_edge G K c hc x (above_restE c) _) $$ [Tx Ta Hat Cb B3 B4 R5 R7 HO]
  · isplitr; · iexact HI
    isplitr [HO]
    · isplitl [Tx B4 R7]
      · isplitl [Tx]; · iexact Tx
        rw [bpay_px]
        iapply (lend_pay c s4 (View.set_whole _) 7)
        isplitl [B4] <;> iassumption
      isplitl [Ta B3 R5]
      · isplitl [Ta]; · iexact Ta
        rw [bpay_pa_edge c hc]
        iapply (lend_pay c s3 (View.set_whole _) 5)
        isplitl [B3] <;> iassumption
      isplitl [Hat] <;> iassumption
    iexact HO
  iintro ⟨⟨Px, Pa⟩, Hat, HO⟩
  rw [hx]
  iapply (prog_edge c hc _)
  iapply (edge_run G K c hc f (paE c (cond5_edge c hc)) (pxE c (cond7_edge c hc))
      (paE_eq c _) (pxE_eq c _) _ _ _ _ (k0_off3_eq c) (k0_off4_eq c) _) $$ [D0 R0 D1 Pa Hg W5 C5 D6 R6 D7 Px W6 W7 C7 Ho W0 HO]
  · isplitr; · iexact HI
    isplitr [HO]
    · unfold preE
      isplitl [D0 R0 D1 Pa Hg]
      · iapply (pe1_make G c)
        isplitl [Hg]
        · iapply (Entails.of_eq (whole_chunks c stg (View.set_whole _) fullShare (G c)))
          iexact Hg
        iapply (sb_make c 0 (pa c) 1 s1)
        isplitl [D0 R0]
        · isplitl [D0] <;> iassumption
        isplitl [D1] <;> iassumption
      isplitl [W5 C5 D6 R6 D7 Px]
      · iapply (pe2_make c)
        isplitl [W5 C5]
        · isplitl [W5] <;> iassumption
        iapply (sb_make c 6 (px c) 7 s4)
        isplitl [D6 R6]
        · isplitl [D6] <;> iassumption
        isplitl [D7] <;> iassumption
      isplitl [W6]; · iexact W6
      isplitl [W7]; · iexact W7
      isplitl [C7]; · iexact C7
      isplitl [Ho]
      · iapply (Entails.of_eq (rows_lanes c f)); iexact Ho
      iexact W0
    iexact HO
  unfold postE
  iintro ⟨⟨⟨E0, E5, E6, E7⟩, Hg, H3, H4, Ho⟩, HO⟩
  imod (close_four G K c 0) $$ [E0] with V0
  · isplitr; · iexact HI
    iexact E0
  imod (close_four G K c 5) $$ [E5] with V5
  · isplitr; · iexact HI
    iexact E5
  imod (close_four G K c 6) $$ [E6] with V6
  · isplitr; · iexact HI
    iexact E6
  imod (close_four G K c 7) $$ [E7] with V7
  · isplitr; · iexact HI
    iexact E7
  imod (close_bar G K c) $$ [Hat] with Hb
  · isplitr; · iexact HI
    iexact Hat
  imodintro
  iapply Hk
  isplitr [HO]
  · isplitl [Hb]; · iexact Hb
    isplitl [V0 V1 V2 V3 V4 V5 V6 V7]
    · isplitl [V0]; · iexact V0
      isplitl [V1]; · iexact V1
      isplitl [V2]; · iexact V2
      isplitl [V3]; · iexact V3
      isplitl [V4]; · iexact V4
      isplitl [V5]; · iexact V5
      isplitl [V6] <;> iassumption
    isplitl [B0 B1 B2 H3 H4]
    · isplitl [B0]; · iexact B0
      isplitl [B1]; · iexact B1
      isplitl [B2]; · iexact B2
      isplitl [H3]
      · iapply (back c s3 (View.set_whole _) (T G c)); iexact H3
      iapply (back c s4 (View.set_whole _) (T G (px c))); iexact H4
    isplitl [Hg]
    · iapply (Entails.of_eq (whole_chunks c stg (View.set_whole _) fullShare (G c)).symm)
      iexact Hg
    iapply (Entails.of_eq (rows_lanes c (Res G c)).symm); iexact Ho
  iexact HO

/-- The body on any device: every buffer and semaphore comes back, the result holds the two totals, nothing is owed. -/
theorem body_run (c : Dv) (f : FVec F S512x512 .f32) (Q : PUnit → sProp 𝕄) :
    iprop(ctx G K ∗ bodyPre G c f ∗ ow c (O₀ c)) ⊢ iprop(((bodyPost G c ∗ ow c 0) -∗ Q ⟨⟩) -∗ Wp c theBody Q) := by
  cases hc : inner c
  · exact body_edge G K c hc f Q
  · exact body_inner G K c hc f Q

end Cert.Gather

end
-- ==== Proof.Region.lean ====
/-
The kernel as a region of the program: what its windows hold, what it needs of the launch, what it leaves.
-/
module

public import proofs.«01_k».proof.Proof.Body
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The rows a device gathered. -/
def inp (c : Dv) : Vol F := V4 m c main_v21

/-- The buffers after the region. -/
def Vn (c : Dv) : Valuation τ sig (Elt F) := Function.update (V4 m c) (Proc.devRef .tc main_v22) (Res (inp m) c)

theorem Vn_out (c : Dv) : Vn m c (Proc.devRef .tc main_v22) = Res (inp m) c := by
  unfold Vn; exact Function.update_self ..
theorem Vn_of (c : Dv) (r : Ref sig .tc) (h : r ≠ main_v22) : Vn m c (Proc.devRef .tc r) = V4 m c (Proc.devRef .tc r) := by
  unfold Vn; exact Function.update_of_ne (StableHlo.devRef_ne_of_ne h) ..

/-! ## The kernel's own semaphores -/

abbrev osem : Fin 8 × Fin 4 → SemLoc sig := fun x => .dma (sm (fam x.1) x.2)
theorem osem_facts : Pipeline.OwnSemFacts spec0 osem := by decide

theorem ownSems0_eq (c : Dv) : (Pipeline.ownSems0 osem c : sProp 𝕄) = Svs c := by
  unfold Pipeline.ownSems0 Svs
  rw [bigSep_univ_prod, bigSep_univ_eq_bigSepL [(0 : Fin 8), 1, 2, 3, 4, 5, 6, 7] (by decide) (by decide)]
  unfold sv
  simp only [← all4_eq]
  rfl

/-! ## The region's data -/

/-- What the launch keeps for the kernel on device `c`. -/
def Tk (c : Dv) : sProp 𝕄 := iprop(∃ K, ctx (inp m) K ∗ Mine c)
def Xk (c : Dv) : sProp 𝕄 := iprop(Tk m c ∗ Svs c)
abbrev Yk (c : Dv) : sProp 𝕄 := semVal (bar c) 0

def dat (c : Dv) : Dat τ (Elt F) Unit ℕ UU ℕ cfg0 c where
  A w := V4 m c (Proc.devRef .tc (Pipeline.arrRef spec0 w))
  after w _ := match w with
    | ⟨0, _⟩ => inp m c
    | ⟨1, _⟩ => Res (inp m) c
  Φ t := match t with
    | ⟨0, _⟩ => iprop(Xk m c ∗ Scr c ∗ ∃ r, prngReg c r)
    | ⟨_ + 1, _⟩ => iprop(Yk c ∗ Svs c ∗ Scr c ∗ ∃ r, prngReg c r)
  q _ := fullShare
  owed t := match t with
    | ⟨0, _⟩ => O₀ c
    | ⟨_ + 1, _⟩ => 0

def pdats : (p : Fin 1) → (c : Dv) → Dat τ (Elt F) Unit ℕ UU ℕ (cfgs p) c := fun _ => dat m

theorem arrAt_in (c : Dv) : (dat m c).arrAt 0 cfg0.N = inp m c := (dat m c).arrAt_in (0 : Fin 2) rfl _
/-- Each window's one block is its whole array. -/
theorem emb0 (y : S4x64x512.Idx) : (win0_0.blk t0_0).view.emb y = y := by
  refine funext fun a => Fin.ext ?_
  fin_cases a <;> simp [Pipeline.Window.blk] <;> rfl
theorem emb1 (y : S512x512.Idx) : (win0_1.blk t0_0).view.emb y = y := by
  refine funext fun a => Fin.ext ?_
  fin_cases a <;> simp [Pipeline.Window.blk] <;> rfl

theorem arrAt_out (c : Dv) : (dat m c).arrAt 1 cfg0.N = Res (inp m) c := by
  refine Dat.arrAt_eq_of_covers (dat m c) (1 : Fin 2) (Res (inp m) c) (by decide +kernel) fun t hf y => ?_
  rw [show t = (t0_0 : Fin cfg0.N) from fin_N0 t]
  exact congrArg (Res (inp m) c) (emb1 y).symm

theorem read0 (f : Vol F) : (win0_0.blk t0_0).view.read (Elt F) f = f := funext fun y => congrArg f (emb0 y)

theorem owesAt_open (c : Dv) (t : Fin (cfg0.N + 1)) (O : CellTallies nD τ sig Unit) (h : (dat m c).owed t = O) :
    ((dat m c).owesAt () t : sProp 𝕄) ⊢ ow c O := by
  unfold Dat.owesAt Pipeline.owesWithin; rw [h]
  iintro ⟨%W, -, HO⟩; iexists W; iexact HO
theorem owesAt_make (c : Dv) (t : Fin (cfg0.N + 1)) (O : CellTallies nD τ sig Unit) (h : (dat m c).owed t = O) :
    (ow c O : sProp 𝕄) ⊢ ((dat m c).owesAt () t : sProp 𝕄) := by
  unfold Dat.owesAt Pipeline.owesWithin Dat.bound; rw [h]
  iintro ⟨%W, HO⟩; iexists W; isplitr; · ipureintro; exact fun _ _ => Or.inl trivial
  iexact HO

theorem owns_whole (c : Dv) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dv) : Thread nD τ).loc b), ⌜f = X⌝ ∗ (((c : Thread nD τ).loc b) ↦{fullShare} f)) := by
  unfold owns; simp only [Memref.view_whole, View.read_whole, View.set_whole]

theorem before_in (c : Dv) (d) : (dat m c).before (0 : Fin 2) t0_0 d = inp m c := by
  unfold Dat.before
  rw [if_pos (fetch0_0 t0_0)]
  have h : (dat m c).fetched (0 : Fin 2) t0_0 d = (win0_0.blk t0_0).view.read (Elt F) (inp m c) := rfl
  exact h.trans (read0 (F := F) _)

set_option maxRecDepth 4000 in
theorem body_obl (c : Dv) : BodyObligation (dat m c) (defs₀ (F := F)) 𝒱₀ () Set.univ := fun t => by
  rw [show t = (t0_0 : Fin cfg0.N) from fin_N0 t]
  rw [bigSep_W0, bigSep_W0]
  have hb : (defs₀ (F := F) .tc cfg0.body (cfg0.bodyArgs t0_0 (cfg0.slots t0_0)) : TcProg F PUnit) = theBody := body_eq ..
  show iprop(iprop(Xk m c ∗ Scr c ∗ ∃ r, prngReg c r) ∗ (dat m c).owesAt () (Fin.castSucc t0_0)
      ∗ (∃ d, owns (c : Thread nD τ) (Memref.whole cc0_stg0_0) fullShare ((dat m c).before (0 : Fin 2) t0_0 d))
      ∗ (∃ d, owns (c : Thread nD τ) (Memref.whole cc0_stg1_0) fullShare ((dat m c).before (1 : Fin 2) t0_0 d)))
    ⊢ Wp c (defs₀ (F := F) .tc cfg0.body (cfg0.bodyArgs t0_0 (cfg0.slots t0_0))) fun _ =>
      iprop(iprop(Yk c ∗ Svs c ∗ Scr c ∗ ∃ r, prngReg c r) ∗ (dat m c).owesAt () (Fin.succ t0_0)
      ∗ owns (c : Thread nD τ) (Memref.whole cc0_stg0_0) fullShare (inp m c)
      ∗ owns (c : Thread nD τ) (Memref.whole cc0_stg1_0) fullShare (Res (inp m) c))
  rw [hb]
  simp only [owns_whole]
  unfold Xk Tk
  iintro ⟨⟨⟨⟨%K, #HI, HM⟩, HS⟩, Hscr, Hreg⟩, HO, ⟨%d0, %g0, %h0, Hg⟩, ⟨%d1, %g1, %h1, Ho⟩⟩
  have e0 : g0 = inp m c := by
    rw [h0]; exact before_in m c d0
  subst e0
  ihave HO := (owesAt_open m c _ (O₀ c) rfl) $$ HO
  iapply (body_run (inp m) K c g1 _) $$ [HM HS Hscr Hg Ho HO]
  · isplitr; · iexact HI
    isplitr [HO]
    · unfold bodyPre
      isplitl [HM]; · iexact HM
      isplitl [HS]; · iexact HS
      isplitl [Hscr]; · iexact Hscr
      isplitl [Hg]; · iexact Hg
      iexact Ho
    iexact HO
  unfold bodyPost
  iintro ⟨⟨Hb, HS, Hscr, Hg, Ho⟩, HO⟩
  isplitl [Hb HS Hscr Hreg]
  · isplitl [Hb]; · iexact Hb
    isplitl [HS]; · iexact HS
    isplitl [Hscr]; · iexact Hscr
    iexact Hreg
  isplitl [HO]
  · iapply (owesAt_make m c _ 0 rfl); iexact HO
  isplitl [Hg]
  · iexists _; isplitr; · (ipureintro; rfl)
    iexact Hg
  iexists _; isplitr; · (ipureintro; rfl)
  iexact Ho

/-! ## The region's record -/

theorem above_O₀ (c : Dv) : Above 0 (O₀ c) := by
  unfold O₀
  refine Above.add (Above.tally Nat.one_pos) (Above.add (Above.tally Nat.one_pos) ?_)
  split
  · exact Above.add (Above.tally Nat.one_pos) ((above_restI c).mono (Nat.zero_le 1))
  · exact (above_restE c).mono (Nat.zero_le 1)

theorem stage_lt : ∀ (w : Fin cfg0.W) (s : Fin (cfg0.win w).nbuf), ((cfg0.win w).sem s).val < 2 := by decide

theorem level_cut : Pipeline.LevelCutOwed (pcfgs (F := F)) adm (pdats m) () L lv 0 (fun _ => 0) where
  hι c w s := by rw [L_tc]; exact Finset.mem_singleton_self _
  hιb c w s := by
    show (if ((cfg0.win w).sem s).val < 2 then 0 else _) ≤ 0
    rw [if_pos (stage_lt w s)]
  hD c t := match t with
    | ⟨0, _⟩ => above_O₀ c
    | ⟨_ + 1, _⟩ => Above.zero 0

/-- The held buffers that no window names. -/
abbrev Sr : Finset (DevRef τ sig) := Pipeline.ucRefs τ sig \ Pipeline.arrRefs spec0

theorem mem_arr : Proc.devRef .tc main_v22 ∈ (Pipeline.arrRefs spec0 : Finset (DevRef τ sig)) := by decide

theorem Vn_rest (c : Dv) (b : DevRef τ sig) (hb : b ∈ Sr \ (∅ : Finset (DevRef τ sig))) : Vn m c b = V4 m c b := by
  unfold Vn
  refine Function.update_of_ne (fun h => ?_) ..
  subst h
  exact (Finset.mem_sdiff.mp (Finset.mem_sdiff.mp hb).1).2 mem_arr

theorem region_in (c : Dv) :
    iprop(Pipeline.scopedRest spec0 c ∗ (∃ r, prngReg c r) ∗ StableHlo.held (c : Thread nD τ) ∅ (V4 m c) ∗ Xk m c) ⊢ (dat m c).Φ 0 := by
  show _ ⊢ iprop(Xk m c ∗ Scr c ∗ ∃ r, prngReg c r)
  rw [scopedRest0_eq]
  unfold Scr
  iintro ⟨HS, Hp, -, HX⟩
  isplitl [HX]; · iexact HX
  isplitl [HS]; · iexact HS
  iexact Hp

theorem region_out (c : Dv) :
    (dat m c).Φ (Fin.last cfg0.N) ⊢ iprop(Pipeline.scopedRest spec0 c ∗ (∃ r, prngReg c r)
      ∗ StableHlo.held (c : Thread nD τ) ∅ (Vn m c) ∗ Pipeline.ownSems0 osem c ∗ Yk c) := by
  show iprop(Yk c ∗ Svs c ∗ Scr c ∗ ∃ r, prngReg c r) ⊢ _
  rw [scopedRest0_eq, ownSems0_eq]
  unfold Scr StableHlo.held
  rw [bigSep_empty]
  iintro ⟨HY, HV, HS, Hp⟩
  isplitl [HS]; · iexact HS
  isplitl [Hp]; · iexact Hp
  isplitr; · iempintro
  isplitl [HV]; · iexact HV
  iexact HY

def region0 : Pipeline.RegionSeg (pcfgs (F := F)) adm (pdats m) () defs₀ 𝒱₀ L lv 0 :=
  Pipeline.RegionSeg.ofTalk (pcfgs (F := F)) adm (pdats m) () defs₀ 𝒱₀ L lv 0 osem osem_facts ∅ Sr (Finset.empty_subset _)
    launch0.toP rfl (fun c => (body_obl m c).loose) (fun _ => 0) O₀
    (fun c => (zero_add _).symm) (fun c => rfl) (fun c => rfl) (fun c w => (dat m c).share_full (fun _ => rfl) w)
    (V4 m) (Vn m) (Vn_rest m) (Tk m) Yk (Xk m) Yk
    (fun c => by
      rw [ownSems0_eq]; unfold Xk
      iintro ⟨HT, HS, -⟩; imodintro
      isplitl [HT]; · iexact HT
      iexact HS)
    (region_in m) (region_out m)
    (fun c => by iintro H; imodintro; iexact H)
    (fun _ => 0) (level_cut m) (fun _ => iprop(emp))
    (fun c w => rfl)
    (fun c w => match w with
      | ⟨0, _⟩ => (arrAt_in m c).trans (Vn_of m c main_v21 (by decide)).symm
      | ⟨1, _⟩ => (arrAt_out m c).trans (Vn_out m c).symm)

end Cert.Gather

end
-- ==== Proof.Credit.lean ====
/-
The launch's credits: every semaphore is credited with what all the devices together owe it, and that is what its
owner waits for.
-/
module

public import proofs.«01_k».proof.Proof.Region

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What one device owes one semaphore -/

theorem cell_inj {a c : Dv} {i j : Fin 8} {k l : Fin 4} : cell a i k = cell c j l ↔ a = c ∧ i = j ∧ k = l := by
  constructor
  · intro h
    have e := scEmb.injective (a₁ := (a, i, k)) (a₂ := (c, j, l)) h
    exact ⟨congrArg (·.1) e, congrArg (·.2.1) e, congrArg (·.2.2) e⟩
  · rintro ⟨rfl, rfl, rfl⟩; rfl
theorem bar_inj {a c : Dv} : bar a = bar c ↔ a = c := ⟨fun h => barEmb.injective h, fun h => h ▸ rfl⟩
theorem cell_ne_bar (a c : Dv) (j : Fin 8) (k : Fin 4) : cell a j k ≠ bar c := fun h => by
  have := congrArg Prod.snd h; cases this

theorem at_cell (a c : Dv) (i j : Fin 8) (k l : Fin 4) (n : ℕ) :
    (tallyAt (cell a i k) () n : CellTallies nD τ sig Unit) (cell c j l) () = if c = a ∧ j = i ∧ l = k then n else 0 := by
  rw [tallyAt_apply]; simp only [cell_inj, and_true]
theorem at_bar (a c : Dv) (n : ℕ) :
    (tallyAt (bar a) () n : CellTallies nD τ sig Unit) (bar c) () = if c = a then n else 0 := by
  rw [tallyAt_apply]; simp only [bar_inj, and_true]
theorem bar_at_cell (a c : Dv) (j : Fin 8) (l : Fin 4) (n : ℕ) :
    (tallyAt (bar a) () n : CellTallies nD τ sig Unit) (cell c j l) () = 0 := by
  rw [tallyAt_apply]; simp only [cell_ne_bar, false_and, if_false]
theorem cell_at_bar (a c : Dv) (i : Fin 8) (k : Fin 4) (n : ℕ) :
    (tallyAt (cell a i k) () n : CellTallies nD τ sig Unit) (bar c) () = 0 := by
  rw [tallyAt_apply]; simp only [(cell_ne_bar _ _ _ _).symm, false_and, if_false]
theorem add_at (O O' : CellTallies nD τ sig Unit) (g : GSem nD τ sig) : (O + O') g () = O g () + O' g () := by
  rw [Pi.add_apply, Finsupp.add_apply]

theorem to_px {c d : Dv} : c = px d ↔ d = px c := ⟨fun h => by rw [h, px_px], fun h => by rw [h, px_px]⟩
theorem to_pa {c d : Dv} : c = pa d ↔ d = pa c := ⟨fun h => by rw [h, pa_pa], fun h => by rw [h, pa_pa]⟩
theorem to_mi {c d : Dv} : c = mi d ↔ d = mi c := ⟨fun h => by rw [h, mi_mi], fun h => by rw [h, mi_mi]⟩

theorem owed_bar (d c : Dv) : O₀ d (bar c) () = (if d = px c then 1 else 0) + ((if d = pa c then 1 else 0)
    + (if d = mi c then (if inner c then 1 else 0) else 0)) := by
  have e : O₀ d (bar c) () = (if d = px c then 1 else 0) + ((if d = pa c then 1 else 0)
      + (if inner d then (if d = mi c then 1 else 0) else 0)) := by
    unfold O₀ restI restE sum4 tI1 tI2 tE1 tE2
    cases inner d <;> simp [add_at, at_bar, to_px, to_pa, to_mi] <;>
      exact by repeat' first | exact ⟨cell_at_bar _ _ _ _ _, cell_at_bar _ _ _ _ _⟩ | exact cell_at_bar _ _ _ _ _ | constructor
  rw [e]
  by_cases hm : d = mi c
  · subst hm; simp [inner_mi]
  · simp [hm]

theorem mi_ne_pa : ∀ c, mi c ≠ pa c := by decide

theorem sum4_pick (t : Fin 4 → CellTallies nD τ sig Unit) (O : CellTallies nD τ sig Unit) (g : GSem nD τ sig) (l : Fin 4) (n : ℕ)
    (h : ∀ k, t k g () = if l = k then n else 0) : sum4 t O g () = n + O g () := by
  unfold sum4
  rw [add_at, add_at, add_at, add_at, h, h, h, h]
  fin_cases l <;> simp

theorem pick (p q : Prop) [Decidable p] [Decidable q] (n : ℕ) (l k : Fin 4) :
    (if p ∧ q ∧ l = k then n else 0) = if l = k then (if p ∧ q then n else 0) else 0 := by
  by_cases p <;> by_cases q <;> by_cases l = k <;> simp [*]

theorem restI_at (d c : Dv) (j : Fin 8) (l : Fin 4) : restI d (cell c j l) ()
    = (if d = mi c ∧ j = 3 then N else 0) + ((if d = pa c ∧ j = 5 then N else 0) + (if d = px c ∧ j = 7 then N else 0)) := by
  unfold restI
  rw [sum4_pick (tI1 d) _ _ l (if d = mi c ∧ j = 3 then N else 0) fun k => by rw [at_cell, pick]; simp only [to_mi],
    sum4_pick (tI2 d) _ _ l ((if d = pa c ∧ j = 5 then N else 0) + (if d = px c ∧ j = 7 then N else 0)) fun k => by
      rw [add_at, at_cell, at_cell, pick, pick]; simp only [to_pa, to_px]; by_cases l = k <;> simp [*]]
  rfl
theorem restE_at (d c : Dv) (j : Fin 8) (l : Fin 4) : restE d (cell c j l) ()
    = (if d = pa c ∧ j = 1 then N else 0) + (if d = px c ∧ j = 7 then N else 0) := by
  unfold restE
  rw [sum4_pick (tE1 d) _ _ l (if d = pa c ∧ j = 1 then N else 0) fun k => by rw [at_cell, pick]; simp only [to_pa],
    sum4_pick (tE2 d) _ _ l (if d = px c ∧ j = 7 then N else 0) fun k => by rw [at_cell, pick]; simp only [to_px]]
  rfl

/-- What a device owes a semaphore of family `j` of device `c`, by which of the three peers it is. -/
theorem owed_cell (d c : Dv) (j : Fin 8) (k : Fin 4) : O₀ d (cell c j k) () =
    (if d = mi c then (if inner c ∧ j = 3 then N else 0) else 0)
    + ((if d = pa c then (if inner c then (if j = 1 then N else 0) else (if j = 5 then N else 0)) else 0)
    + (if d = px c then (if j = 7 then N else 0) else 0)) := by
  have e : O₀ d (cell c j k) () = if inner d
      then (if d = mi c ∧ j = 3 then N else 0) + ((if d = pa c ∧ j = 5 then N else 0) + (if d = px c ∧ j = 7 then N else 0))
      else (if d = pa c ∧ j = 1 then N else 0) + (if d = px c ∧ j = 7 then N else 0) := by
    unfold O₀
    rw [add_at, add_at, bar_at_cell, bar_at_cell, zero_add, zero_add]
    cases inner d
    · exact (restE_at d c j k)
    · show (tallyAt (bar (mi d)) () 1 + restI d) (cell c j k) () = _
      rw [add_at, bar_at_cell, zero_add]; exact restI_at d c j k
  rw [e]
  generalize N = n
  have h1 : inner (mi c) = inner c := inner_mi c
  have h2 : inner (pa c) = !inner c := inner_pa c
  by_cases hm : d = mi c <;> by_cases hp : d = pa c
  · exact absurd (hm.symm.trans hp) (mi_ne_pa c)
  · have hi : inner d = inner c := by rw [hm, h1]
    rw [hi, if_neg hp, if_pos hm]; cases inner c <;> simp [hp, hm, ite_and, mi_ne_pa, (mi_ne_pa c).symm]
  · have hi : inner d = !inner c := by rw [hp, h2]
    rw [hi, if_neg hm, if_pos hp]; cases inner c <;> simp [hp, hm, ite_and, mi_ne_pa, (mi_ne_pa c).symm]
  · cases inner d <;> simp [hm, hp, ite_and]

/-! ## What all devices owe it -/

/-- What the owner of a semaphore of family `j` is credited with. -/
def amt (c : Dv) (j : Fin 8) : ℕ :=
  (if inner c ∧ j = 3 then N else 0) + ((if inner c then (if j = 1 then N else 0) else (if j = 5 then N else 0)) + (if j = 7 then N else 0))

theorem sum_at (x : Dv) (n : ℕ) : ∑ d : Dv, (if d = x then n else 0) = n := by
  rw [Finset.sum_ite_eq' Finset.univ x fun _ => n, if_pos (Finset.mem_univ _)]

theorem launch_bar (c : Dv) :
    tallyOn (bar c) (launchCredit (Pipeline.owing O₀) 0 (bar c))
      = (tallyAt (bar c) () (if inner c then 3 else 2) : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, sum_at, sum_at, sum_at]
  cases inner c <;> rfl

theorem launch_cell (c : Dv) (j : Fin 8) (k : Fin 4) :
    tallyOn (cell c j k) (launchCredit (Pipeline.owing O₀) 0 (cell c j k))
      = (tallyAt (cell c j k) () (amt c j) : CellTallies nD τ sig Unit) := by
  unfold tallyAt; refine congrArg _ (Finsupp.ext fun u => ?_); cases u
  rw [Pipeline.launchCredit_owing, Finsupp.single_eq_same, Finset.sum_congr rfl fun d _ => owed_cell d c j k, Finset.sum_add_distrib,
    Finset.sum_add_distrib, sum_at, sum_at, sum_at]
  rfl

/-! ## The credits, dealt -/

def osemEmb : Fin 8 × Fin 4 ↪ SemLoc sig := ⟨osem, fun a b h => sm_inj a b (SemLoc.dma.inj h)⟩

/-- Eight of a kind, side by side. -/
theorem fam8 (P : Fin 8 → sProp 𝕄) : bigSep Finset.univ P = iprop(P 0 ∗ P 1 ∗ P 2 ∗ P 3 ∗ P 4 ∗ P 5 ∗ P 6 ∗ P 7) := by
  rw [bigSep_univ_eq_bigSepL [(0 : Fin 8), 1, 2, 3, 4, 5, 6, 7] (by decide) (by decide)]; rfl

/-- The credit of a whole family. -/
def crs (c : Dv) (j : Fin 8) : sProp 𝕄 := all4 fun k => cred (tallyAt (cell c j k) () (amt c j))

theorem creds_all (c : Dv) : (Pipeline.launchCred O₀ c : sProp 𝕄) ⊢ iprop(cred (tallyAt (bar c) () (if inner c then 3 else 2))
    ∗ crs c 0 ∗ crs c 1 ∗ crs c 2 ∗ crs c 3 ∗ crs c 4 ∗ crs c 5 ∗ crs c 6 ∗ crs c 7) := by
  unfold Pipeline.launchCred
  rw [bigSep_univ_at _ (SemLoc.reg barS), launch_bar]
  refine sep_mono_right ?_
  refine BI.Entails.trans (bigSep_subset (t := Finset.univ.map osemEmb) fun x hx => ?_) ?_
  · obtain ⟨y, -, rfl⟩ := Finset.mem_map.mp hx
    refine Finset.mem_erase.mpr ⟨fun h => ?_, Finset.mem_univ _⟩
    cases h
  · rw [bigSep_map, bigSep_univ_prod, ← fam8]
    refine Entails.of_eq (bigSep_congr fun j _ => ?_)
    unfold crs
    rw [all4_eq]
    exact congrArg all4 (funext fun k => congrArg cred (launch_cell c j k))

/-- A device is credited with exactly what it waits for. -/
theorem creds (c : Dv) : (Pipeline.launchCred O₀ c : sProp 𝕄) ⊢ Cr c := by
  have h1 (j : Fin 8) (h : amt c j = N) : (crs c j : sProp 𝕄) = crd c j := by unfold crs; rw [h]
  refine (creds_all c).trans ?_
  unfold Cr
  cases hc : inner c
  · rw [h1 5 (by unfold amt; simp [hc]), h1 7 (by unfold amt; simp [hc])]
    simp only [Bool.false_eq_true, if_false]
    iintro ⟨Hb, -, -, -, -, -, H5, -, H7⟩
    isplitl [Hb]; · iexact Hb
    isplitl [H5]; · iexact H5
    iexact H7
  · rw [h1 1 (by unfold amt; simp [hc]), h1 3 (by unfold amt; simp [hc]), h1 7 (by unfold amt; simp [hc])]
    simp only [if_true]
    iintro ⟨Hb, -, H1, -, H3, -, -, -, H7⟩
    isplitl [Hb]; · iexact Hb
    isplitl [H1]; · iexact H1
    isplitl [H3]; · iexact H3
    iexact H7

end Cert.Gather

end
-- ==== Proof.Fund.lean ====
/-
The launch: the rounds of all semaphores funded at once, each right handed to the device that pays with it.
-/
module

public import proofs.«01_k».proof.Proof.Credit

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The rights to pay -/

def barToks : Finset (GSem nD τ sig × ℕ × Fin 3) :=
  Finset.univ.map ⟨fun x : Dv × Fin 3 => (bar x.1, 0, x.2), fun _ _ h =>
    Prod.ext (congrArg (fun t : GSem nD τ sig × ℕ × Fin 3 => t.1.1.1) h) (congrArg (fun t : GSem nD τ sig × ℕ × Fin 3 => t.2.2) h)⟩
def cellToks : Finset (GSem nD τ sig × ℕ × Fin 3) :=
  Finset.univ.map ⟨fun x : Dv × (Fin 8 × Fin 4) => (cell x.1 x.2.1 x.2.2, 0, 0), fun _ _ h =>
    scEmb.injective (congrArg (fun t : GSem nD τ sig × ℕ × Fin 3 => t.1) h)⟩
def allToks : Finset (GSem nD τ sig × ℕ × Fin 3) := barToks ∪ cellToks

theorem disjoint_toks : Disjoint barToks cellToks := by
  rw [Finset.disjoint_left]
  rintro g h₁ h₂
  obtain ⟨x, -, rfl⟩ := Finset.mem_map.mp h₁
  obtain ⟨y, -, h⟩ := Finset.mem_map.mp h₂
  exact cell_ne_bar _ _ _ _ (congrArg Prod.fst h)
theorem disjoint_cells : Disjoint barCells scCells := by
  rw [Finset.disjoint_left]
  rintro g h₁ h₂
  obtain ⟨x, -, rfl⟩ := Finset.mem_map.mp h₁
  obtain ⟨y, -, h⟩ := Finset.mem_map.mp h₂
  exact cell_ne_bar _ _ _ _ h

/-- The rights that belong to a device's own semaphores. -/
def toks (c : Dv) : sProp 𝕄 :=
  iprop((dutyTok ER (bar c) 0 0 ∗ dutyTok ER (bar c) 0 1 ∗ dutyTok ER (bar c) 0 2)
    ∗ dt c 0 ∗ dt c 1 ∗ dt c 2 ∗ dt c 3 ∗ dt c 4 ∗ dt c 5 ∗ dt c 6 ∗ dt c 7)

theorem three (P : Fin 3 → sProp 𝕄) : bigSep Finset.univ P = iprop(P 0 ∗ P 1 ∗ P 2) := by
  rw [bigSep_univ_eq_bigSepL [(0 : Fin 3), 1, 2] (by decide) (by decide)]; rfl

theorem toks_eq : bigSep allToks (fun x => (dutyTok ER x.1 x.2.1 x.2.2 : sProp 𝕄)) = bigSep Finset.univ fun c : Dv => toks c := by
  unfold allToks toks
  rw [bigSep_union disjoint_toks, bigSep_sep']
  refine congrArg₂ _ ?_ ?_
  · unfold barToks
    rw [bigSep_map, bigSep_univ_prod]
    exact bigSep_congr fun c _ => three _
  · unfold cellToks
    rw [bigSep_map, bigSep_univ_prod]
    refine bigSep_congr fun c _ => ?_
    rw [bigSep_univ_prod, ← fam8]
    exact bigSep_congr fun j _ => all4_eq _

abbrev ePx : Dv ≃ Dv := ⟨px, px, px_px, px_px⟩
abbrev ePa : Dv ≃ Dv := ⟨pa, pa, pa_pa, pa_pa⟩
abbrev eMi : Dv ≃ Dv := ⟨mi, mi, mi_mi, mi_mi⟩

/-- Each right handed to the peer that pays with it. -/
theorem toks_around : (bigSep Finset.univ fun c : Dv => (toks c : sProp 𝕄)) ⊢ bigSep Finset.univ fun c : Dv => Tok c := by
  unfold toks Tok
  simp only [bigSep_sep']
  rw [bigSep_univ_equiv ePx (fun c : Dv => (dutyTok ER (bar c) 0 0 : sProp 𝕄)),
    bigSep_univ_equiv ePa (fun c : Dv => (dutyTok ER (bar c) 0 1 : sProp 𝕄)),
    bigSep_univ_equiv eMi (fun c : Dv => (dutyTok ER (bar c) 0 2 : sProp 𝕄)),
    bigSep_univ_equiv ePa (fun c : Dv => (dt c 1 : sProp 𝕄)), bigSep_univ_equiv eMi (fun c : Dv => (dt c 3 : sProp 𝕄)),
    bigSep_univ_equiv ePa (fun c : Dv => (dt c 5 : sProp 𝕄)), bigSep_univ_equiv ePx (fun c : Dv => (dt c 7 : sProp 𝕄))]
  exact BI.Entails.refl _

/-! ## The launch element -/

def u₀ : UU :=
  (initOf (Pipeline.cells (Pipeline.pin (pcfgs (F := F)) adm) cellOf_inj) (Pipeline.launchToks (Pipeline.pin (pcfgs (F := F)) adm) cellOf_inj),
    launchOf barCells scCells allToks)

/-- A resource dealt to one device. -/
def onDev (c₀ : Dv) (X : sProp 𝕄) (c : Dv) : sProp 𝕄 := if c = c₀ then X else iprop(emp)
theorem bigSep_onDev (c₀ : Dv) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- The rounds' launch element is kept on device 0 until all the devices' counters are there to fund them. -/
def Gh : Dv → sProp 𝕄 := onDev 0 (BI.own (ER (launchOf barCells scCells allToks)))

theorem dealt : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ Gh) := by
  unfold u₀ Gh
  iintro Hu
  ihave H := (ownU_pair _ _) $$ Hu
  icases H with ⟨HP, HX⟩
  imodintro
  isplitl [HP]; · iexact HP
  rw [bigSep_onDev]; iexact HX

/-! ## The first thread state -/

theorem unscopedSems0_eq (c : Dv) : (unscopedSems0 c : sProp 𝕄) = semVal (bar c) 0 := by
  unfold unscopedSems0
  rw [show (Finset.univ.filter fun sm : SemLoc sig => ¬ sm.isScoped .tc) = {SemLoc.reg barS} from by decide, BI.bigSep_singleton]

/-- What rides beside the buffers while the host part runs. -/
def E₀ (c : Dv) : sProp 𝕄 := iprop(Tk m c ∗ (∃ r, prngReg c r) ∗ ∃ W, owes (c : Thread nD τ) (O₀ c) W)
abbrev Es : Fin 2 → Dv → sProp 𝕄 := fun _ => E₀ m
abbrev T₀ (c : Dv) : sProp 𝕄 := iprop(StableHlo.held (c : Thread nD τ) (Pipeline.ucRefs τ sig) (V0 m c) ∗ E₀ m c)

/-- What of a device's launch holdings is not the rounds' ghost state. -/
def bundle (c : Dv) : sProp 𝕄 :=
  iprop(StableHlo.held (c : Thread nD τ) (Pipeline.ucRefs τ sig) (V0 m c) ∗ Cr c ∗ owes (c : Thread nD τ) (O₀ c) ∅ ∗ ∃ r, prngReg c r)
/-- What of the rounds' ghost state stays with a device. -/
def linear (c : Dv) : sProp 𝕄 := iprop(atPos ER (bar c) 0 ∅ 0 ∗ Ops c ∗ Tok c)

theorem T₀_intro (K : GSem nD τ sig → ℕ) (c : Dv) : iprop(ctx (inp m) K ∗ (linear c ∗ bundle m c)) ⊢ T₀ m c := by
  unfold bundle linear T₀ E₀ Tk Mine
  iintro ⟨#HI, ⟨Ha, Ho, Ht⟩, Hh, Hc, HO, Hp⟩
  isplitl [Hh]; · iexact Hh
  isplitl [Ha Ho Ht Hc]
  · iexists K
    isplitr; · iexact HI
    isplitl [Ha]; · iexact Ha
    isplitl [Ho]; · iexact Ho
    isplitl [Ht]; · iexact Ht
    iexact Hc
  isplitl [Hp]; · iexact Hp
  iexists ∅; iexact HO

theorem core_init (c : Dv) : iprop(unscopedBufs c (fun b => m ((c.tc : Thread nD τ).loc b)) ∗ unscopedSems0 c
      ∗ owes (c.tc : Thread nD τ) (O₀ c) ∅ ∗ Pipeline.launchCred O₀ c ∗ prngReg c (ρ c) ∗ Gh c)
    ⊢ (iprop(bundle m c ∗ (semVal (bar c) 0 ∗ Gh c)) : sProp 𝕄) := by
  rw [show (unscopedBufs c (fun b => m ((c.tc : Thread nD τ).loc b)) : sProp 𝕄)
      = StableHlo.held (c : Thread nD τ) (Pipeline.ucRefs τ sig) (V0 m c) from
        Pipeline.unscopedBufs_held (Ix := Unit) (Name := ℕ) (U := UU) (Lvl := ℕ) c (V0 m c), unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem opens_eq : bigSep scCells (fun g => (openTok ER g : sProp 𝕄)) = bigSep Finset.univ fun c : Dv => Ops c := by
  rw [bigSep_map, bigSep_univ_prod]
  refine bigSep_congr fun c _ => ?_
  unfold Ops
  rw [bigSep_univ_prod, ← fam8]
  exact bigSep_congr fun j _ => all4_eq _

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ Gh c)) ∗ levAts L lv)
      ⊢ (|={Set.univ}=> bigSep Finset.univ (T₀ m) : sProp 𝕄) := by
  iintro ⟨H, #Hlev⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ Gh c))
      ⊢ (iprop((bigSep Finset.univ fun c : Dv => bundle m c) ∗ ((bigSep barCells fun g => semVal g 0) ∗ BI.own (ER (launchOf barCells scCells allToks)))) : sProp 𝕄)
      from by
        refine BI.Entails.trans (bigSep_mono fun c _ => core_init m ρ c) ?_
        rw [bigSep_sep', bigSep_sep', bigSep_map]
        unfold Gh
        rw [bigSep_onDev]
        exact BI.Entails.refl _) $$ H
  icases H' with ⟨HB, Hv, Hu⟩
  imod (Rounds.fund_launch ER (Rd (inp m)) disjoint_cells (fun g _ h => h) allToks) $$ [Hv Hu] with ⟨%κ, -, #Hinv, #Hr, Hat, Hopen, Htok⟩
  · isplitl [Hv]; · iexact Hv
    iexact Hu
  imodintro
  iapply (bigSep_with_persistent (R := ctx (inp m) κ) (Φ := fun c => iprop(linear c ∗ bundle m c)) fun c _ => T₀_intro m κ c)
  isplitr
  · unfold ctx
    isplitr; · iexact Hinv
    isplitr; · iexact Hr
    iexact Hlev
  rw [bigSep_sep']
  isplitr [HB]
  · unfold linear
    rw [bigSep_sep', bigSep_sep']
    isplitl [Hat]
    · ihave Hat := (Entails.of_eq (bigSep_map (s := Finset.univ) barEmb (Φ := fun g : GSem nD τ sig => (atPos ER g 0 ∅ 0 : sProp 𝕄)))) $$ Hat
      iexact Hat
    isplitl [Hopen]
    · ihave Hopen := (Entails.of_eq (opens_eq (F := F))) $$ Hopen
      iexact Hopen
    iapply (toks_around (F := F))
    iapply (Entails.of_eq (toks_eq (F := F))) $$ Htok
  · iexact HB

end Cert.Gather

end
-- ==== Proof.Run.lean ====
/-
The run of the whole program: it ends, the arguments are unchanged, the result is the gathered and summed rows, every
semaphore is back at zero.
-/
module

public import proofs.«01_k».proof.Proof.Fund
public import Idealize.ShloMosaic.Lib.Pipeline.Frame
public import Idealize.ShloMosaic.Lib.Pipeline.Regions

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ) (ρ : Dev nD → PrngReg)

/-! ## Into the region and out of it -/

theorem region_pre (c : Dv) : iprop(StableHlo.held (c : Thread nD τ) (Pipeline.ucRefs τ sig) (V4 m c) ∗ E₀ m c) ⊢ (region0 m).pre c := by
  show _ ⊢ iprop(StableHlo.held (c : Thread nD τ) (Pipeline.arrRefs spec0) (V4 m c) ∗ (∃ r, prngReg c r)
    ∗ (StableHlo.held (c : Thread nD τ) Sr (V4 m c) ∗ emp) ∗ Tk m c ∗ ∃ Wd, owes (c : Thread nD τ) (0 + O₀ c) Wd)
  rw [StableHlo.held_sub_split (c : Thread nD τ) (Pipeline.arrRefs_sub_ucRefs spec0 (by decide)) (V4 m c), zero_add]
  unfold E₀
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

/-- The last thread state. -/
def Tₙ (c : Dv) : sProp 𝕄 := iprop(StableHlo.held (c : Thread nD τ) (Pipeline.ucRefs τ sig) (Vn m c) ∗ semVal (bar c) 0)

theorem region_post (c : Dv) : (region0 m).post c ⊢ iprop(Tₙ m c ∗ ∃ W, owes (c : Thread nD τ) (0 : CellTallies nD τ sig Unit) W) := by
  show iprop(StableHlo.held (c : Thread nD τ) (Pipeline.arrRefs spec0) (Vn m c) ∗ (∃ r, prngReg c r)
    ∗ (StableHlo.held (c : Thread nD τ) Sr (Vn m c) ∗ emp) ∗ Yk c ∗ ∃ Wd, owes (c : Thread nD τ) 0 Wd) ⊢ _
  unfold Tₙ
  rw [StableHlo.held_sub_split (c : Thread nD τ) (Pipeline.arrRefs_sub_ucRefs spec0 (by decide)) (Vn m c)]
  iintro ⟨Ha, -, ⟨Hs, -⟩, HY, HO⟩
  isplitr [HO]
  · isplitl [Ha Hs]
    · isplitl [Ha]; · iexact Ha
      iexact Hs
    iexact HY
  iexact HO

/-! ## What the last state says -/

theorem Vn_arg0 (c : Dv) : Vn m c main_arg0 = m ((c : Thread nD τ).loc main_arg0) :=
  (Vn_of m c main_arg0 (by decide)).trans <| (V4_of m c main_arg0 (by decide)).trans <| (V3_of m c main_arg0 (by decide)).trans <|
    (V2_of m c main_arg0 (by decide)).trans <| (V1_of m c main_arg0 (by decide)).trans rfl
theorem Vn_arg1 (c : Dv) : Vn m c main_arg1 = m ((c : Thread nD τ).loc main_arg1) :=
  (Vn_of m c main_arg1 (by decide)).trans <| (V4_of m c main_arg1 (by decide)).trans <| (V3_of m c main_arg1 (by decide)).trans <|
    (V2_of m c main_arg1 (by decide)).trans <| (V1_of m c main_arg1 (by decide)).trans rfl

theorem unscoped_eq : ∀ sm : SemLoc sig, sm.isScoped .tc = false → sm = .reg barS := by decide

def QY (c : Dv) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v22) = Res (inp m) c) ∧ s.sem (bar c) = 0

theorem read_end (c : Dv) (s' : Phys nD τ sig (Elt F)) : (iprop(Tₙ m c ∗ SI s') : sProp 𝕄) ⊢ |={Set.univ}=> iprop(⌜QY m c s'.mem⌝ ∗ SI s') := by
  unfold Tₙ StableHlo.held
  iintro ⟨⟨Hh, Hb⟩, HSI⟩
  icombine HSI Hb gives %hb
  ihave Hr := (pointsTo_read_all (Pipeline.ucRefs τ sig) (fun b => ((c : Thread nD τ).1, b)) (Vn m c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (Vn_arg0 m c),
      (h (Proc.devRef .tc main_arg1) (Finset.mem_filter.mpr ⟨StableHlo.devRef_mem_tcRefs main_arg1, by decide⟩)).trans (Vn_arg1 m c),
      (h (Proc.devRef .tc main_v22) (Finset.mem_filter.mpr ⟨StableHlo.devRef_mem_tcRefs main_v22, by decide⟩)).trans (Vn_out m c)⟩,
      by simpa using hb⟩
  iexact HSI

/-! ## The run -/

set_option backward.isDefEq.respectTransparency.types false in
/-- From any memory with the counters at zero every fair execution of the 32 devices ends, the arguments as they were,
    the result on every device the sum of the gathered rows, every counter at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v22) = Res (inp m) c) ∧ r.2.sem = fun _ => 0) := by
  refine Pipeline.θ_run_regions_kit_dev_sems (pcfgs (F := F)) adm (pdats m) () cellOf_inj EP defs₀ 𝒱₀ L lv m ρ main
    (segs m 𝒱₀ L lv (Es m) () (pdats m) (region0 m))
    (fun c Q => by
      rewrite [main_chain c, Seg.run_eq_chain,
        show (segs m 𝒱₀ L lv (Es m) () (pdats m) (region0 m) c).map Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne Gh u₀ dealt
    (T₀ := T₀ m) (Tₙ := Tₙ m)
    (hch := fun c => ⟨.rfl, .rfl, .rfl, .rfl, region_pre m c, region_post m c⟩)
    (hinit := init m ρ) (QY := QY m) (hfin := read_end m)
    (hQ := fun s h hs => ⟨fun c => (h c).1, sem_eq_zero hs fun c sm hsm => by
      obtain rfl := unscoped_eq sm hsm
      exact (h c).2⟩)

end Cert.Gather

end
-- ==== Proof.Rows.lean ====
/-
A gather of whole rows: row `r` of the result is the row of the table that the `r`-th index names, the index read
signed and kept inside the table.
-/
module

public import proofs.«01_k».proof.Proof.Gen.KernelIdeal

@[expose] public section

namespace Cert.Gather

open Idealize.ShloMosaic

/-- The index with these coordinates. -/
abbrev at1 {n₀ : Nat} (a : Fin n₀) : (⟨1, ![n₀]⟩ : Shape).Idx := fun | ⟨0, _⟩ => a
/-- The index with these coordinates. -/
abbrev at2 {n₀ n₁ : Nat} (a : Fin n₀) (b : Fin n₁) : (⟨2, ![n₀, n₁]⟩ : Shape).Idx := fun | ⟨0, _⟩ => a | ⟨1, _⟩ => b
/-- The index with these coordinates. -/
abbrev at3 {n₀ n₁ n₂ : Nat} (a : Fin n₀) (b : Fin n₁) (c : Fin n₂) : (⟨3, ![n₀, n₁, n₂]⟩ : Shape).Idx :=
  fun | ⟨0, _⟩ => a | ⟨1, _⟩ => b | ⟨2, _⟩ => c

/-- The dimension numbers of `table[ids]`, for a table of `N` rows of `C` columns and `R` indices. -/
def rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section
variable {α : Type} {N C R w : Nat}
  (wf : GatherDims.WF ⟨2, ![N, C]⟩ ⟨2, ![R, 1]⟩ ⟨2, ![R, C]⟩ [1] [0] [] [0] [] 1 ![1, C])

/-- The row: the index, kept inside the table. -/
theorem row_coord (idx : IVec ⟨2, ![R, 1]⟩ w) (r : Fin R) (l : Fin C) :
    ((rowDims N C R wf).operandIdx (at2 r l) idx 0).val = min (idx (at2 r 0)).toInt.toNat (N - 1) := by
  show (rowDims N C R wf).start (at2 r l) idx 0 + (rowDims N C R wf).batchCoord (at2 r l) 0
    + (rowDims N C R wf).offCoord (at2 r l) 0 = _
  have ho : (rowDims N C R wf).offCoord (at2 r l) 0 = 0 :=
    GatherDims.offCoord_eq_zero _ _ _ fun h => ((GatherDims.mem_sKept _ _).mp h).1 (List.mem_singleton.mpr rfl)
  have hs : (rowDims N C R wf).siIdx (at2 r l) ⟨List.idxOf (0 : Fin 2) (rowDims N C R wf).startIndexMap,
      List.idxOf_lt_length_iff.2 (List.mem_singleton.mpr rfl)⟩ = at2 r 0 := by
    funext b
    match b with
    | ⟨0, _⟩ => rfl
    | ⟨1, _⟩ => rfl
  rw [GatherDims.batchCoord_eq_zero _ _ _ List.not_mem_nil, ho]
  unfold GatherDims.start
  rw [dif_pos (show (0 : Fin 2) ∈ (rowDims N C R wf).startIndexMap from List.mem_singleton.mpr rfl), hs]
  rfl

/-- The column: the result's. -/
theorem col_coord (idx : IVec ⟨2, ![R, 1]⟩ w) (r : Fin R) (l : Fin C) :
    ((rowDims N C R wf).operandIdx (at2 r l) idx 1).val = l.val := by
  show (rowDims N C R wf).start (at2 r l) idx 1 + (rowDims N C R wf).batchCoord (at2 r l) 1
    + (rowDims N C R wf).offCoord (at2 r l) 1 = _
  have hs : (rowDims N C R wf).start (at2 r l) idx 1 = 0 := by
    unfold GatherDims.start
    exact dif_neg fun h => by cases List.mem_singleton.mp h
  have ho : (rowDims N C R wf).offCoord (at2 r l) 1 = l.val := by
    unfold GatherDims.offCoord
    rw [dif_pos ((GatherDims.mem_sKept _ _).mpr ⟨fun h => (by cases List.mem_singleton.mp h), List.not_mem_nil⟩)]
    rfl
  rw [GatherDims.batchCoord_eq_zero _ _ _ List.not_mem_nil, hs, ho]
  omega

/-- The gather at a row and a column. -/
theorem gather_row (x : (⟨2, ![N, C]⟩ : Shape).Idx → α) (idx : IVec ⟨2, ![R, 1]⟩ w) (r : Fin R) (l : Fin C)
    (a : Fin N) (ha : min (idx (at2 r 0)).toInt.toNat (N - 1) = a.val) :
    Host.gather (rowDims N C R wf) x idx (at2 r l) = x (at2 a l) := by
  unfold Host.gather
  congr 1
  funext b
  apply Fin.ext
  match b with
  | ⟨0, _⟩ => exact (row_coord wf idx r l).trans ha
  | ⟨1, _⟩ => exact col_coord wf idx r l

end

end Cert.Gather

end
-- ==== Proof.Prefix.lean ====
/-
What the host operations before the kernel leave: the masked gather of each device's rows.
-/
module

public import proofs.«01_k».proof.Proof.Region
public import proofs.«01_k».proof.Proof.Rows
public import Idealize.ShloMosaic.Lib.StableHlo.Run

@[expose] public section

noncomputable section

namespace Cert.Gather

open Cert.KernelIdeal Cert.KernelIdeal.Gen
open Idealize.ShloMosaic
open Idealize.ShloMosaic.TcCoe
open Idealize.ShloMosaic.StableHlo
open Idealize.SL.Sem

variable {F : FTy → Type} [FloatOps F]

/-! ## The host operations, as functions of arrays -/

/-- The first row a device asks for. -/
def startW (c : Dv) : IVec S_ 32 :=
  muli (id (Host.remui (Host.divui (constantI S_ 32 (Dev.word c)) (constantI S_ 32 16#32)) (constantI S_ 32 2#32))) (constantI S_ 32 256#32)
/-- The same, wrapped at zero. -/
def start (c : Dv) : IVec S_ 32 := select (cmpi .slt (startW c) (constantI S_ 32 0#32)) (addi (startW c) (constantI S_ 32 512#32)) (startW c)
/-- The first row of the table a device holds. -/
def first (c : Dv) : IVec S_ 32 :=
  muli (id (Host.remui (Host.divui (constantI S_ 32 (Dev.word c)) (constantI S_ 32 4#32)) (constantI S_ 32 4#32))) (constantI S_ 32 4096#32)

/-- The indices a device looks up, counted from its own first row. -/
def rel (ids : IVec S512 32) (c : Dv) : IVec S256 32 :=
  subi (Host.dynamicSlice S256 ids (fun _ => (start c (Shape.Idx.first h_S_)).toInt) sliceFits_S512_S256)
    (broadcastInDim S256 ![] bcast_S_S256 (first c))

/-- Those below the first row sent past the last. -/
def past (d : IVec S256 32) : IVec S256 32 :=
  select (cmpi .slt d (broadcastInDim S256 ![] bcast_S_S256 (constantI S_ 32 0#32)))
    (broadcastInDim S256 ![] bcast_S_S256 (constantI S_ 32 4096#32)) d

/-- The look-up's own wrapping of negative indices, and its column of indices. -/
def column (d : IVec S256 32) : IVec S256x1 32 :=
  broadcastInDim S256x1 ![0] bcast_S256_S256x1_0
    (select (cmpi .slt d (broadcastInDim S256 ![] bcast_S_S256 (constantI S_ 32 0#32)))
      (addi d (broadcastInDim S256 ![] bcast_S_S256 (constantI S_ 32 4096#32))) d)
/-- Which indices are in the table. -/
def valid (i : IVec S256x1 32) : IVec S256 1 :=
  Host.reduce IntOp.andi (andi (cmpi .sge i (broadcastInDim S256x1 ![] bcast_S_S256x1 (constantI S_ 32 0#32)))
    (cmpi .sle i (broadcastInDim S256x1 ![0, 1] bcast_S1x1_S256x1_0_1 (broadcastInDim S1x1 ![1] bcast_S1_S1x1_1 (constantI S1 32 4095#32)))))
    (constantI S_ 1 1#1) reducesTo_S256x1_S256_d1 h_S_
/-- The look-up: the named rows, zero where the index is not in the table. -/
def take (tab : FVec F S4096x512 .f32) (d : IVec S256 32) : FVec F S256x512 .f32 :=
  select (broadcastInDim S256x512 ![0] bcast_S256_S256x512_0 (valid (column d)))
    (Host.gather gather_S4096x512_S256x1_S256x512_1_0_n_n_0_1_1512 tab (column d))
    (broadcastInDim S256x512 ![] bcast_S_S256x512 (constant S_ .f32 0x00000000#32))

/-! ## The buffers -/

section
variable (V : Valuation τ sig (Elt F))

set_option maxHeartbeats 1000000 in
/-- The one start index, read as a buffer. -/
theorem index_one (W : Valuation τ sig (Elt F)) (hT : ∀ k : Fin 1, (![main_v12] k).ty = (⟨S_, .i32⟩ : BufTy)) :
    (fun k : Fin 1 => cast (congrArg (fun U : BufTy => U.Contents (Elt F)) (hT k)) (W (Proc.devRef .tc (![main_v12] k))))
      = fun _ => W (Proc.devRef .tc main_v12) := by
  funext k
  obtain rfl := Subsingleton.elim k 0
  rfl

theorem read_v16 (c : Dv) (X) (hX : rel (V (Proc.devRef .tc main_arg0)) c = X) :
    StableHlo.after (hostOps0 c) V (Proc.devRef .tc main_v16) = X := by
  after_results
  rw [index_one (hT := fun k => by obtain rfl := Subsingleton.elim k 0; rfl)]
  simp only [↓ readResult, -eq_self]
  exact hX

theorem read_v18 (c : Dv) (X) (hX : cmpi .slt (rel (V (Proc.devRef .tc main_arg0)) c) (broadcastInDim S256 ![] bcast_S_S256 (constantI S_ 32 0#32)) = X) :
    StableHlo.after (hostOps0 c) V (Proc.devRef .tc main_v18) = X := by
  after_results
  rw [index_one (hT := fun k => by obtain rfl := Subsingleton.elim k 0; rfl)]
  simp only [↓ readResult, -eq_self]
  exact hX

theorem read_c8 (c : Dv) : StableHlo.after (hostOps0 c) V (Proc.devRef .tc main_c_8) = constantI S_ 32 4096#32 := by
  after_results

theorem read_v19 :
    StableHlo.after hostOps0_1 V (Proc.devRef .tc main_v19)
      = select (V (Proc.devRef .tc main_v18)) (broadcastInDim S256 ![] bcast_S_S256 (V (Proc.devRef .tc main_c_8)))
          (V (Proc.devRef .tc main_v16)) := by
  after_results
  rfl

theorem read_v20 :
    StableHlo.after hostOps0_2 V (Proc.devRef .tc main_v20)
      = take (V (Proc.devRef .tc main_arg1)) (V (Proc.devRef .tc main_v19)) := by
  after_results
  rfl

theorem read_v21 :
    StableHlo.after hostOps0_3 V (Proc.devRef .tc main_v21)
      = shapeCast S4x64x512 (V (Proc.devRef .tc main_v20)) shapeCasts_S256x512_S4x64x512 := by
  after_results
  rfl
end

variable (m : (ℓ : Loc nD τ sig) → Buf (Elt F) ℓ)

/-- A device's rows: its look-up, by pages. -/
theorem inp_eq (c : Dv) :
    inp m c = shapeCast S4x64x512
      (take (m ((c.tc : Thread nD τ).loc main_arg1)) (past (rel (m ((c.tc : Thread nD τ).loc main_arg0)) c)))
      shapeCasts_S256x512_S4x64x512 := by
  have h19 : V2 m c (Proc.devRef .tc main_v19) = past (rel (m ((c.tc : Thread nD τ).loc main_arg0)) c) := by
    refine (read_v19 (V1 m c)).trans ?_
    rw [show V1 m c (Proc.devRef .tc main_v18) = _ from read_v18 (V0 m c) c _ rfl,
      show V1 m c (Proc.devRef .tc main_v16) = _ from read_v16 (V0 m c) c _ rfl,
      show V1 m c (Proc.devRef .tc main_c_8) = _ from read_c8 (V0 m c) c]
    rfl
  have h1 : V2 m c (Proc.devRef .tc main_arg1) = m ((c.tc : Thread nD τ).loc main_arg1) :=
    (V2_of m c main_arg1 (by decide)).trans (V1_of m c main_arg1 (by decide))
  have h20 : V3 m c (Proc.devRef .tc main_v20)
      = take (m ((c.tc : Thread nD τ).loc main_arg1)) (past (rel (m ((c.tc : Thread nD τ).loc main_arg0)) c)) := by
    refine (read_v20 (V2 m c)).trans ?_
    rw [h19, h1]
  refine (read_v21 (V3 m c)).trans ?_
  rw [h20]

end Cert.Gather

end
-- ==== Proof.Words.lean ====
/-
The arithmetic of the row numbers.

Row numbers are 32-bit words.  A device whose part of the table begins at row `4096 y` subtracts that from the number,
sends a negative result to 4096, and looks up what lies between 0 and 4095.  For a number below 16384 that is so exactly
for the device whose `y` is the number over 4096.
-/
module

public import Idealize.ShloMosaic.Lib.Affine

@[expose] public section

namespace Cert.Gather

open Idealize.ShloMosaic

/-- The number from a device's own first row, a negative one sent past the table. -/
def own (w : BitVec 32) (y : ℕ) : BitVec 32 :=
  if IntOp.cmpi .slt (w - BitVec.ofNat 32 (4096 * y)) 0#32 = 1 then 4096#32 else w - BitVec.ofNat 32 (4096 * y)

/-- A word below 2³¹, read signed. -/
theorem toInt_small (w : BitVec 32) (h : w.toNat < 2 ^ 31) : w.toInt = w.toNat := by
  rw [BitVec.toInt_eq_toNat_cond]; split <;> omega

theorem slt_iff (a b : BitVec 32) : IntOp.cmpi .slt a b = 1 ↔ a.toInt < b.toInt := by
  show BitVec.ofBool (a.slt b) = 1 ↔ _
  unfold BitVec.slt
  by_cases h : a.toInt < b.toInt <;> simp [h]

theorem sle_iff (a b : BitVec 32) : IntOp.cmpi .sle a b = 1 ↔ a.toInt ≤ b.toInt := by
  show BitVec.ofBool (a.sle b) = 1 ↔ _
  unfold BitVec.sle
  by_cases h : a.toInt ≤ b.toInt <;> simp [h]

theorem sge_iff (a b : BitVec 32) : IntOp.cmpi .sge a b = 1 ↔ b.toInt ≤ a.toInt := by
  show BitVec.ofBool (b.sle a) = 1 ↔ _
  unfold BitVec.sle
  by_cases h : b.toInt ≤ a.toInt <;> simp [h]

section
variable {w : BitVec 32} (hw : w.toNat < 16384) {y : ℕ} (hy : y < 4)
include hw hy

theorem diff_toNat : (w - BitVec.ofNat 32 (4096 * y)).toNat
    = if 4096 * y ≤ w.toNat then w.toNat - 4096 * y else w.toNat + 2 ^ 32 - 4096 * y := by
  rw [BitVec.toNat_sub, BitVec.toNat_ofNat]
  split <;> omega

theorem diff_neg : IntOp.cmpi .slt (w - BitVec.ofNat 32 (4096 * y)) 0#32 = 1 ↔ w.toNat < 4096 * y := by
  have h := diff_toNat hw hy
  rw [slt_iff, BitVec.toInt_eq_toNat_cond, h]
  simp only [BitVec.toInt_zero]
  split <;> split <;> omega

/-- The device's number: the row in its part, or 4096 and more. -/
theorem own_toNat : (own w y).toNat = if 4096 * y ≤ w.toNat then w.toNat - 4096 * y else 4096 := by
  unfold own
  by_cases h : 4096 * y ≤ w.toNat
  · rw [if_neg (by rw [diff_neg hw hy]; omega), diff_toNat hw hy, if_pos h, if_pos h]
  · rw [if_pos (by rw [diff_neg hw hy]; omega), if_neg h]; rfl

theorem own_lt : (own w y).toNat < 16384 := by
  rw [own_toNat hw hy]; split <;> omega

theorem own_toInt : (own w y).toInt = (own w y).toNat := toInt_small _ (by have := own_lt hw hy; omega)

theorem own_nonneg : ¬ IntOp.cmpi .slt (own w y) 0#32 = 1 := by
  rw [slt_iff, own_toInt hw hy]; simp

theorem own_ge : IntOp.cmpi .sge (own w y) 0#32 = 1 := by
  rw [sge_iff, own_toInt hw hy]; simp

/-- It is in the device's part exactly when the part is the one the number falls in. -/
theorem own_le : IntOp.cmpi .sle (own w y) 4095#32 = 1 ↔ w.toNat / 4096 = y := by
  rw [sle_iff, own_toInt hw hy, own_toNat hw hy, show (4095#32 : BitVec 32).toInt = 4095 from by decide]
  split <;> omega

theorem own_row (h : w.toNat / 4096 = y) : min (own w y).toInt.toNat (4096 - 1) = w.toNat - 4096 * y := by
  rw [own_toInt hw hy, own_toNat hw hy, if_pos (by omega), Int.toNat_natCast]
  omega

end

end Cert.Gather

end
-- ==== Proof.Lookup.lean ====
/-
One entry of a device's look-up: the row of its part of the table, if the number falls in that part, and zero otherwise.
-/
module

public import proofs.«01_k».proof.Proof.Prefix
public import proofs.«01_k».proof.Proof.Words
public import Idealize.ShloMosaic.Lib.ReduceAll
public import Idealize.ShloMosaic.Lib.DynamicIndex
public import Idealize.ShloMosaic.Lib.Pipeline.Value

@[expose] public section

noncomputable section

namespace Cert.Gather

open Cert.KernelIdeal Cert.KernelIdeal.Gen
open Idealize.ShloMosaic
open Idealize.ShloMosaic.TcCoe
open Idealize.SL.Sem

variable {F : FTy → Type} [FloatOps F]

/-! ## Reading the operations at an index -/

/-- A broadcast at an index. -/
theorem bcast_at {α : Type} {s t : Shape} (dims : Fin s.rank → Fin t.rank) (h : s.BroadcastsInDim t dims) (x : s.Idx → α)
    (j : t.Idx) (i : s.Idx) (hi : ∀ a, s.size a ≠ 1 → (i a).val = (j (dims a)).val) : broadcastInDim t dims h x j = x i := by
  unfold broadcastInDim
  congr 1
  funext a
  apply Fin.ext
  by_cases h1 : s.size a = 1
  · rw [dif_pos h1]
    have := (i a).isLt
    show 0 = (i a).val
    omega
  · rw [dif_neg h1]
    exact (hi a h1).symm

theorem start_val : ∀ c : Dv, (start c (Shape.Idx.first h_S_)).toInt = ((256 * (c.val / 16) : ℕ) : Int) := by decide +kernel
theorem first_val : ∀ c : Dv, first c (Shape.Idx.first h_S_) = BitVec.ofNat 32 (4096 * (c.val / 4 % 4)) := by decide +kernel

theorem scalar_idx (i : S_.Idx) : i = Shape.Idx.first h_S_ := funext fun a => a.elim0

/-- The number a device looks up in row `r`. -/
theorem rel_at (ids : IVec S512 32) (c : Dv) (r : Fin 256) (n : Fin 512) (hn : n.val = 256 * (c.val / 16) + r.val) :
    rel ids c (at1 r) = ids (at1 n) - BitVec.ofNat 32 (4096 * (c.val / 4 % 4)) := by
  have hc := c.isLt
  have hx : c.val / 16 < 2 := by have : c.val < 32 := hc; omega
  have hs : S512.Slices (fun _ => 256 * (c.val / 16)) S256 := ⟨rfl, fun a => by
    obtain rfl : a = 0 := Subsingleton.elim _ _
    show 256 * (c.val / 16) + 256 ≤ 512
    omega⟩
  show Host.dynamicSlice S256 ids _ _ (at1 r) - broadcastInDim S256 ![] bcast_S_S256 (first c) (at1 r) = _
  rw [Host.dynamicSlice_eq_extractStridedSlice S256 ids _ (fun _ => 256 * (c.val / 16)) sliceFits_S512_S256 hs
      (fun _ => start_val c),
    bcast_at ![] bcast_S_S256 (first c) (at1 r) (Shape.Idx.first h_S_) (fun a => a.elim0), first_val]
  congr 1
  show ids _ = _
  congr 1
  funext a
  obtain rfl : a = 0 := Subsingleton.elim _ _
  exact Fin.ext hn.symm

theorem past_at (ids : IVec S512 32) (c : Dv) (r : Fin 256) (n : Fin 512) (hn : n.val = 256 * (c.val / 16) + r.val) :
    past (rel ids c) (at1 r) = own (ids (at1 n)) (c.val / 4 % 4) := by
  unfold own
  rw [← rel_at ids c r n hn]
  rfl

/-- A number that is not negative is not wrapped. -/
theorem column_at (d : IVec S256 32) (r : Fin 256) (h : ¬ IntOp.cmpi .slt (d (at1 r)) 0#32 = 1) :
    column d (at2 r 0) = d (at1 r) := by
  unfold column
  refine (bcast_at ![0] bcast_S256_S256x1_0 _ (at2 r 0) (at1 r) fun a _ => ?_).trans ?_
  · obtain rfl : a = 0 := Subsingleton.elim _ _
    rfl
  · exact if_neg h

/-- The row test: the one number of the row is in the table. -/
theorem valid_at (i : IVec S256x1 32) (r : Fin 256) :
    valid i (at1 r) = 1#1 ↔ IntOp.cmpi .sge (i (at2 r 0)) 0#32 = 1 ∧ IntOp.cmpi .sle (i (at2 r 0)) 4095#32 = 1 := by
  have hd : reducesTo_S256x1_S256_d1.drop (at2 r 0) = at1 r := by
    funext a
    obtain rfl : a = 0 := Subsingleton.elim _ _
    rfl
  have hu : ∀ k : S256x1.Idx, reducesTo_S256x1_S256_d1.drop k = at1 r → k = at2 r 0 := by
    intro k hk
    have h0 : k 0 = r := congrFun hk 0
    funext a
    match a with
    | ⟨0, _⟩ => exact h0
    | ⟨1, _⟩ => exact Subsingleton.elim (α := Fin 1) (k 1) 0
  constructor
  · intro h
    exact IntOp.andi_eq_one.1 (Host.reduce_andi_eq_one _ _ _ _ (at1 r) h (at2 r 0) hd)
  · intro h
    unfold valid
    rw [Host.reduce_eq_foldl]
    refine IntOp.foldl_andi_one _ _ _ rfl fun k hk => ?_
    rw [hu k (by simpa using (List.mem_filter.1 hk).2)]
    exact IntOp.andi_eq_one.2 h

/-- The look-up at a row and a column. -/
theorem take_at (tab : FVec F S4096x512 .f32) (d : IVec S256 32) (r : Fin 256) (l : Fin 512) (w : BitVec 32)
    (hw : w.toNat < 16384) (y : ℕ) (hy : y < 4) (hd : d (at1 r) = own w y) :
    take tab d (at2 r l)
      = if w.toNat / 4096 = y then tab (at2 ⟨w.toNat % 4096, Nat.mod_lt _ (by decide)⟩ l) else FloatOps.ofBits .f32 0x00000000#32 := by
  have hcol : column d (at2 r 0) = own w y := (column_at d r (by rw [hd]; exact own_nonneg hw hy)).trans hd
  have hv : valid (column d) (at1 r) = 1#1 ↔ w.toNat / 4096 = y := by
    rw [valid_at, hcol]
    exact ⟨fun h => (own_le hw hy).1 h.2, fun h => ⟨own_ge hw hy, (own_le hw hy).2 h⟩⟩
  have hb : broadcastInDim S256x512 ![0] bcast_S256_S256x512_0 (valid (column d)) (at2 r l) = valid (column d) (at1 r) :=
    bcast_at ![0] bcast_S256_S256x512_0 _ (at2 r l) (at1 r) fun a _ => by
      obtain rfl : a = 0 := Subsingleton.elim _ _
      rfl
  show (if broadcastInDim S256x512 ![0] bcast_S256_S256x512_0 (valid (column d)) (at2 r l) = 1 then _ else _) = _
  rw [hb]
  by_cases h : w.toNat / 4096 = y
  · rw [if_pos h]
    refine (if_pos (hv.2 h)).trans ?_
    refine gather_row gather_S4096x512_S256x1_S256x512_1_0_n_n_0_1_1512_wf tab (column d) r l _ ?_
    rw [hcol, own_row hw hy h]
    show _ = w.toNat % 4096
    omega
  · rw [if_neg h]
    exact if_neg fun h' => h (hv.1 h')

/-- A device's rows, entry by entry. -/
theorem inp_at (m : (ℓ : Loc nD τ sig) → Buf (Elt F) ℓ) (c : Dv) (k : Fin 4) (i : Fin 64) (l n : Fin 512)
    (hn : n.val = 256 * (c.val / 16) + 64 * k.val + i.val)
    (hw : (m ((c.tc : Thread nD τ).loc main_arg0) (at1 n)).toNat < 16384) :
    inp m c (at3 k i l)
      = if (m ((c.tc : Thread nD τ).loc main_arg0) (at1 n)).toNat / 4096 = c.val / 4 % 4
        then m ((c.tc : Thread nD τ).loc main_arg1)
          (at2 ⟨(m ((c.tc : Thread nD τ).loc main_arg0) (at1 n)).toNat % 4096, Nat.mod_lt _ (by decide)⟩ l)
        else FloatOps.ofBits .f32 0x00000000#32 := by
  have hk := k.isLt
  have hi := i.isLt
  rw [inp_eq]
  refine (shapeCast_apply _ shapeCasts_S256x512_S4x64x512 (at3 k i l) (at2 ⟨64 * k.val + i.val, by omega⟩ l) ?_).trans ?_
  · rw [Shape.rowMajor_val_two, Shape.rowMajor_val_three]
    show (64 * k.val + i.val) * 512 + l.val = (k.val * 64 + i.val) * 512 + l.val
    omega
  · exact take_at _ _ _ l _ hw _ (Nat.mod_lt _ (by decide)) (past_at _ c _ n (by show _ = _ + (64 * k.val + i.val); omega))

end Cert.Gather

end
-- ==== Proof.Value.lean ====
/-
The value: the sums of the masked look-ups are the rows of the whole table.

In a column of the mesh four devices look up the same numbers, each in its quarter of the table.  Exactly one finds the
row; the others contribute zeros.  Whatever the order in which the kernel adds them, the sum is the row.
-/
module

public import proofs.«01_k».proof.Proof.Lookup
public import proofs.«01_k».proof.Proof.Gen.ReferenceIdeal.Run
public import proofs.«01_k».proof.Defs
public import Idealize.ShloMosaic.PureOps.Ideal.Laws

@[expose] public section

noncomputable section

namespace Cert.Gather

open Cert.KernelIdeal Cert.KernelIdeal.Gen
open Idealize.ShloMosaic
open Idealize.ShloMosaic.TcCoe
open Idealize.SL.Sem

/-! ## The column's sum -/

/-- Of the four devices of a column exactly one holds a given quarter of the table. -/
theorem one_of_four : ∀ (c : Dv) (q : Fin 4),
    (q.val = c.val / 4 % 4 ∧ q.val ≠ (pa c).val / 4 % 4 ∧ q.val ≠ (mi c).val / 4 % 4 ∧ q.val ≠ (pa (mi c)).val / 4 % 4)
    ∨ (q.val ≠ c.val / 4 % 4 ∧ q.val = (pa c).val / 4 % 4 ∧ q.val ≠ (mi c).val / 4 % 4 ∧ q.val ≠ (pa (mi c)).val / 4 % 4)
    ∨ (q.val ≠ c.val / 4 % 4 ∧ q.val ≠ (pa c).val / 4 % 4 ∧ q.val = (mi c).val / 4 % 4 ∧ q.val ≠ (pa (mi c)).val / 4 % 4)
    ∨ (q.val ≠ c.val / 4 % 4 ∧ q.val ≠ (pa c).val / 4 % 4 ∧ q.val ≠ (mi c).val / 4 % 4 ∧ q.val = (pa (mi c)).val / 4 % 4) := by
  decide +kernel

theorem pa_x : ∀ c : Dv, (pa c).val / 16 = c.val / 16 := by decide +kernel
theorem mi_x : ∀ c : Dv, (mi c).val / 16 = c.val / 16 := by decide +kernel
theorem px_x : ∀ c : Dv, (px c).val / 16 = 1 - c.val / 16 := by decide +kernel

section
variable (G : Dv → Vol Ideal) (j : S4x64x512.Idx) (q : Fin 4) (e : Ideal .f32)

/-- If in the column of `c` the device of quarter `q` holds `e` at an index and the others zero, the sum is `e`. -/
theorem B_at (c : Dv)
    (h : ∀ d : Dv, d.val / 16 = c.val / 16 → G d j = if q.val = d.val / 4 % 4 then e else (0 : EReal)) : B G c j = e := by
  show (G c j + G (pa c) j : EReal) + (G (mi c) j + G (pa (mi c)) j : EReal) = e
  rw [h c rfl, h (pa c) (pa_x c), h (mi c) (mi_x c), h (pa (mi c)) ((pa_x _).trans (mi_x c))]
  rcases one_of_four c q with ⟨h1, h2, h3, h4⟩ | ⟨h1, h2, h3, h4⟩ | ⟨h1, h2, h3, h4⟩ | ⟨h1, h2, h3, h4⟩
  · rw [if_pos h1, if_neg h2, if_neg h3, if_neg h4, add_zero, add_zero, add_zero]
  · rw [if_neg h1, if_pos h2, if_neg h3, if_neg h4, zero_add, add_zero, add_zero]
  · rw [if_neg h1, if_neg h2, if_pos h3, if_neg h4, add_zero, add_zero, zero_add]
  · rw [if_neg h1, if_neg h2, if_neg h3, if_pos h4, add_zero, zero_add, zero_add]

theorem T_at (c : Dv)
    (h : ∀ d : Dv, d.val / 16 = c.val / 16 → G d j = if q.val = d.val / 4 % 4 then e else (0 : EReal)) : T G c j = e := by
  unfold T
  split
  · exact B_at G j q e c h
  · exact B_at G j q e (pa c) fun d hd => h d (hd.trans (pa_x c))

end

/-! ## The whole result -/

/-- The rows of the table that the numbers name. -/
def rows (ids : IVec S512 32) (E : FVec Ideal ⟨2, ![16384, 512]⟩ .f32) (hw : ∀ n : Fin 512, (ids (at1 n)).toNat < 16384) :
    FVec Ideal S512x512 .f32 :=
  fun i => E (at2 ⟨(ids (at1 (i 0))).toNat, hw (i 0)⟩ (i 1))

/-- A device's part of the table. -/
theorem part_at (E : FVec Ideal ⟨2, ![16384, 512]⟩ .f32) (c : Dv) (a : Fin 4096) (l : Fin 512) (b : Fin 16384)
    (hb : b.val = 4096 * (c.val / 4 % 4) + a.val) :
    (Layout.blockN ⟨2, ![4096, 512]⟩ ⟨2, ![16384, 512]⟩ (Layout.meshBlock [2, 4, 4] ![[1], []] c) E :
      (⟨2, ![4096, 512]⟩ : Shape).Idx → Ideal .f32) (at2 a l) = E (at2 b l) := by
  rw [Layout.blockN_apply]
  congr 1
  funext d
  apply Fin.ext
  rw [Layout.TilesN.idx_val]
  match d with
  | ⟨0, _⟩ =>
    show (c.val / 4 % 4 * 1 + 0) * 4096 + a.val = b.val
    omega
  | ⟨1, _⟩ =>
    show 0 * 512 + l.val = l.val
    omega

/-- The kernel's result. -/
theorem res_value (m : (ℓ : Loc nD τ sig) → Buf (Elt Ideal) ℓ) (ids : IVec S512 32) (E : FVec Ideal ⟨2, ![16384, 512]⟩ .f32)
    (hw : ∀ n : Fin 512, (ids (at1 n)).toNat < 16384)
    (h0 : ∀ c : Dev nD, m ((c.tc : Thread nD τ).loc main_arg0) = ids)
    (h1 : ∀ c : Dev nD, m ((c.tc : Thread nD τ).loc main_arg1)
      = Layout.blockN ⟨2, ![4096, 512]⟩ ⟨2, ![16384, 512]⟩ (Layout.meshBlock [2, 4, 4] ![[1], []] c) E)
    (c : Dv) : Res (inp m) c = rows ids E hw := by
  funext i
  have hr : (i 0).val < 512 := (i 0).isLt
  have hc : c.val < 32 := c.isLt
  have hx : (if (i 0).val / 256 = c.val / 16 then c else px c).val / 16 = (i 0).val / 256 := by
    by_cases h : (i 0).val / 256 = c.val / 16
    · rw [if_pos h, h]
    · rw [if_neg h, px_x]; omega
  have hn := hw (i 0)
  have hj : Res (inp m) c i = T (inp m) (if (i 0).val / 256 = c.val / 16 then c else px c)
      (at3 ⟨(i 0).val % 256 / 64, by omega⟩ ⟨(i 0).val % 64, by omega⟩ (i 1)) := by
    unfold Res
    congr 1
    funext a
    fin_cases a <;> rfl
  refine hj.trans ?_
  refine T_at (inp m) _ ⟨(ids (at1 (i 0))).toNat / 4096, by omega⟩ _ _ fun d hd => ?_
  refine (inp_at m d _ _ (i 1) (i 0) (by
    rw [hd, hx]
    show (i 0).val = 256 * ((i 0).val / 256) + 64 * ((i 0).val % 256 / 64) + (i 0).val % 64
    omega) (by rw [h0]; exact hw _)).trans ?_
  simp only [h0]
  by_cases hq : (ids (at1 (i 0))).toNat / 4096 = d.val / 4 % 4
  · refine (if_pos hq).trans (Eq.trans ?_ (if_pos hq).symm)
    rw [h1]
    exact part_at E d _ (i 1) ⟨(ids (at1 (i 0))).toNat, hn⟩ (by
      show (ids (at1 (i 0))).toNat = 4096 * (d.val / 4 % 4) + (ids (at1 (i 0))).toNat % 4096
      omega)
  · exact (if_neg hq).trans (Ideal.ofBits_zero_f32.trans (if_neg hq).symm)

/-! ## The reference and the precondition -/

/-- The reference's result. -/
theorem ref_value (ids : IVec S512 32) (E : FVec Ideal ⟨2, ![16384, 512]⟩ .f32) (hw : ∀ n : Fin 512, (ids (at1 n)).toNat < 16384)
    (hb : S_.BroadcastsInDim S512 (![] : Fin 0 → Fin S512.rank))
    (hc : S512.BroadcastsInDim ⟨2, ![512, 1]⟩ (![0] : Fin 1 → Fin 2)) :
    Host.gather Cert.ReferenceIdeal.gather_S16384x512_S512x1_S512x512_1_0_n_n_0_1_1512 E
      (broadcastInDim ⟨2, ![512, 1]⟩ ![0] hc
        (select (cmpi .slt ids (broadcastInDim S512 ![] hb (constantI S_ 32 0#32)))
          (addi ids (broadcastInDim S512 ![] hb (constantI S_ 32 16384#32))) ids)) = rows ids E hw := by
  funext i
  obtain ⟨r, l, rfl⟩ : ∃ (r l : Fin 512), i = at2 r l := ⟨i 0, i 1, by
    funext a
    match a with
    | ⟨0, _⟩ => rfl
    | ⟨1, _⟩ => rfl⟩
  have hn := hw r
  have hs : (ids (at1 r)).toInt = (ids (at1 r)).toNat := toInt_small _ (by omega)
  show _ = E (at2 ⟨(ids (at1 r)).toNat, hn⟩ l)
  refine gather_row Cert.ReferenceIdeal.Gen.gather_S16384x512_S512x1_S512x512_1_0_n_n_0_1_1512_wf E _ r l _ ?_
  rw [bcast_at ![0] hc _ (at2 r 0) (at1 r) (fun a _ => by
    obtain rfl : a = 0 := Subsingleton.elim _ _
    rfl)]
  show min (if IntOp.cmpi .slt (ids (at1 r)) 0#32 = 1 then _ else ids (at1 r)).toInt.toNat (16384 - 1) = (ids (at1 r)).toNat
  rw [if_neg (by rw [slt_iff, hs]; simp), hs, Int.toNat_natCast]
  omega

/-- The precondition, of one number. -/
theorem in_range (h : S_.BroadcastsInDim S512 (![] : Fin 0 → Fin S512.rank)) (ids : IVec S512 32)
    (hp : andi (cmpi .sge ids (broadcastInDim S512 ![] h (constantI S_ 32 0#32)))
      (cmpi .slt ids (broadcastInDim S512 ![] h (constantI S_ 32 16384#32))) = fun _ => 1#1) (n : Fin 512) :
    (ids (at1 n)).toNat < 16384 := by
  obtain ⟨h1, h2⟩ := IntOp.andi_eq_one.1 (congrFun hp (at1 n))
  have g1 := (sge_iff (ids (at1 n)) 0#32).1 h1
  have g2 := (slt_iff (ids (at1 n)) 16384#32).1 h2
  rw [show (0#32 : BitVec 32).toInt = 0 from by decide] at g1
  rw [show (16384#32 : BitVec 32).toInt = 16384 from by decide] at g2
  have := (ids (at1 n)).isLt
  rw [BitVec.toInt_eq_toNat_cond] at g1 g2
  split at g1 <;> split at g2 <;> omega

end Cert.Gather

end
-- ==== Proof.Same.lean ====
/-
The kernel printed as it is and the kernel printed for the extended reals are one text under two names: the equalities of
their programs and of their tables of bodies at the bit patterns.
-/
module

public import proofs.«01_k».proof.Defs
public import proofs.«01_k».proof.Proof.Gen.Kernel
public import proofs.«01_k».proof.Proof.Gen.KernelIdeal

@[expose] public section

noncomputable section

namespace Cert.Gather

open Idealize.ShloMosaic Idealize.SL.Sem

set_option maxHeartbeats 4000000 in
/-- The body of the launch. -/
theorem same_body : Cert.Kernel.cc0_body (F := Bits) = Cert.KernelIdeal.cc0_body (F := Bits) := rfl

set_option maxHeartbeats 4000000 in
/-- The program of a device. -/
theorem same_main : Cert.Kernel.main (F := Bits) = Cert.KernelIdeal.main (F := Bits) := rfl

set_option maxHeartbeats 4000000 in
/-- The table of the kernels' bodies: its one label runs the one body. -/
theorem same_bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

set_option maxHeartbeats 4000000 in
/-- The table with the launch itself. -/
theorem same_defs : Cert.Kernel.defs (F := Bits) = Cert.KernelIdeal.defs (F := Bits) :=
  congrArg (Pipeline.defs (Cert.KernelIdeal.pcfgs (F := Bits))) same_bodies

end Cert.Gather
-- ==== Proof.lean ====
/-
The proof of the claims: the frames are the one run of the program with its contents dropped, the value is that run at
the extended reals, where the sums of the masked look-ups are the rows of the table.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem

instance pre_ki : Cert.Pre_ids_in_range_KernelIdeal.Facts := ⟨by decide⟩
instance pre_ri : Cert.Pre_ids_in_range_ReferenceIdeal.Facts := ⟨by decide⟩

/-- The run of the kernel's program, at the bit patterns. -/
theorem frame_bits (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run (Cert.KernelIdeal.defs (F := Bits)) _ _).mono (fun _ h => ⟨fun c => ⟨(h.1 c).1, (h.1 c).2.1⟩, h.2⟩)
    (Cert.Gather.run_main (F := Bits) m ρ)

/-- The kernel at the bit patterns is the same text. -/
theorem frame_k : Cert.quiescent_Kernel := by
  unfold Cert.quiescent_Kernel
  rw [Cert.Gather.same_defs, Cert.Gather.same_main]
  exact fun m ρ _ => frame_bits m ρ

/-- The same run, at the extended reals. -/
theorem frame_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run (Cert.KernelIdeal.defs (F := Ideal)) _ _).mono (fun _ h => ⟨fun c => ⟨(h.1 c).1, (h.1 c).2.1⟩, h.2⟩)
    (Cert.Gather.run_main (F := Ideal) m ρ)

/-- The run of the reference, which has no semaphores. -/
theorem frame_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run (Cert.ReferenceIdeal.defs (F := Ideal)) _ _).mono
    (fun _ h => ⟨fun c => ⟨(h c).2.1, (h c).2.2⟩, sem_eq_zero_of_no_sems (by decide) _⟩)
    (Cert.ReferenceIdeal.Value.run (F := Ideal) m ρ)

/-- Both programs end at the rows of the whole table that the numbers name. -/
theorem value : Cert.algebraic_KernelIdeal_ReferenceIdeal_pre_ids_in_range_KernelIdeal := by
  intro m ρ m' ρ' hpre hag
  have hp := hpre 0
  rw [(hag 0).1] at hp
  have hw := Cert.Gather.in_range Cert.Pre_ids_in_range_KernelIdeal.Facts.bcast_S_S512 _ hp
  refine ⟨Cert.Gather.rows _ (m' (((0 : Dev Cert.ReferenceIdeal.nD).tc : Thread Cert.ReferenceIdeal.nD Cert.ReferenceIdeal.τ).loc Cert.ReferenceIdeal.main_arg1)) hw, ?_, ?_⟩
  · refine (θ_run (Cert.KernelIdeal.defs (F := Ideal)) _ _).mono (fun _ h c => ⟨?_, (h.1 c).1, (h.1 c).2.1⟩)
      (Cert.Gather.run_main (F := Ideal) m ρ)
    exact (h.1 c).2.2.trans (Cert.Gather.res_value m _ _ hw (fun d => (hag d).1) (fun d => (hag d).2) c)
  · refine (θ_run (Cert.ReferenceIdeal.defs (F := Ideal)) _ _).mono (fun _ h => ⟨?_, (h 0).2.1, (h 0).2.2⟩)
      (Cert.ReferenceIdeal.Value.run (F := Ideal) m' ρ')
    exact (h 0).1.trans (Cert.Gather.ref_value _ _ hw _ _)

theorem claim : Cert.Claim :=
  ⟨Cert.Kernel.Gen.facts, Cert.KernelIdeal.Gen.facts, Cert.ReferenceIdeal.Gen.facts, pre_ki, pre_ri,
    frame_k, fun m ρ _ => frame_ki m ρ, fun m ρ _ => frame_ki m ρ, fun m ρ _ => frame_ri m ρ, fun m ρ _ => frame_ri m ρ,
    trivial, value⟩

end Cert.Proof

end
